-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 1024]⟩ ⟨2, ![65536, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S256x1024 : Shape := ⟨2, ![256, 1024]⟩
abbrev S8x1x1024 : Shape := ⟨3, ![8, 1, 1024]⟩
abbrev S1x1024 : Shape := ⟨2, ![1, 1024]⟩
abbrev S8 : Shape := ⟨1, ![8]⟩
abbrev S_ : Shape := ⟨0, ![]⟩
abbrev S256x256 : Shape := ⟨2, ![256, 256]⟩
abbrev S1x1x1024 : Shape := ⟨3, ![1, 1, 1024]⟩
abbrev S1 : Shape := ⟨1, ![1]⟩
abbrev S8x1024 : Shape := ⟨2, ![8, 1024]⟩
abbrev S1024 : Shape := ⟨1, ![1024]⟩

abbrev nBuf : Space → Nat
  | .hbm => 2
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S8192x1024, .bf16⟩
  | .local _ .vmem, ⟨3, _⟩ => ⟨S8x1x1024, .f32⟩
  | .local _ .vmem, ⟨4, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 8
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v31 : BitVec 32 := Scalar.addi v2 c1_i32_8
  let c8_i32_9 : BitVec 32 := 8#32
  let v32 : BitVec 32 := Scalar.remsi v31 c8_i32_9
  let c1_i32_11 : BitVec 32 := 1#32
  let v33 : BitVec 32 := Scalar.muli v32 c1_i32_11
  let v34 : BitVec 32 := Scalar.addi c0_i32_12 v33
  v34.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v35 : BitVec 32 := Scalar.addi v2 c2_i32
  let c8_i32_13 : BitVec 32 := 8#32
  let v36 : BitVec 32 := Scalar.remsi v35 c8_i32_13
  let c1_i32_15 : BitVec 32 := 1#32
  let v37 : BitVec 32 := Scalar.muli v36 c1_i32_15
  let v38 : BitVec 32 := Scalar.addi c0_i32_16 v37
  v38.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v39 : BitVec 32 := Scalar.addi v2 c3_i32
  let c8_i32_17 : BitVec 32 := 8#32
  let v40 : BitVec 32 := Scalar.remsi v39 c8_i32_17
  let c1_i32_19 : BitVec 32 := 1#32
  let v41 : BitVec 32 := Scalar.muli v40 c1_i32_19
  let v42 : BitVec 32 := Scalar.addi c0_i32_20 v41
  v42.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_21 : BitVec 32 := 8#32
  let v44 : BitVec 32 := Scalar.remsi v43 c8_i32_21
  let c1_i32_23 : BitVec 32 := 1#32
  let v45 : BitVec 32 := Scalar.muli v44 c1_i32_23
  let v46 : BitVec 32 := Scalar.addi c0_i32_24 v45
  v46.toNat
def k0_dev5 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v47 : BitVec 32 := Scalar.addi v2 c5_i32
  let c8_i32_25 : BitVec 32 := 8#32
  let v48 : BitVec 32 := Scalar.remsi v47 c8_i32_25
  let c1_i32_27 : BitVec 32 := 1#32
  let v49 : BitVec 32 := Scalar.muli v48 c1_i32_27
  let v50 : BitVec 32 := Scalar.addi c0_i32_28 v49
  v50.toNat
def k0_dev6 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v51 : BitVec 32 := Scalar.addi v2 c6_i32
  let c8_i32_29 : BitVec 32 := 8#32
  let v52 : BitVec 32 := Scalar.remsi v51 c8_i32_29
  let c1_i32_31 : BitVec 32 := 1#32
  let v53 : BitVec 32 := Scalar.muli v52 c1_i32_31
  let v54 : BitVec 32 := Scalar.addi c0_i32_32 v53
  v54.toNat
def k0_dev7 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v55 : BitVec 32 := Scalar.addi v2 c7_i32
  let c8_i32_33 : BitVec 32 := 8#32
  let v56 : BitVec 32 := Scalar.remsi v55 c8_i32_33
  let c1_i32_35 : BitVec 32 := 1#32
  let v57 : BitVec 32 := Scalar.muli v56 c1_i32_35
  let v58 : BitVec 32 := Scalar.addi c0_i32_36 v57
  v58.toNat
def k0_off1 (i : grid0.Coords) : Fin 2 → Nat :=
  let arg0 : BitVec 32 := BitVec.ofNat 32 (i 0).val
  let c256_i32 : BitVec 32 := 256#32
  let v19 : BitVec 32 := Scalar.muli arg0 c256_i32
  let v20 : Index := Scalar.indexCast v19
  let c0_4 : Index := 0#32
  ![v20.toNat, 0]
def k0_cond2 (i : grid0.Coords) : BitVec 1 :=
  let arg0 : BitVec 32 := BitVec.ofNat 32 (i 0).val
  let c31_i32 : BitVec 32 := 31#32
  let v27 : BitVec 1 := Scalar.cmpi .eq arg0 c31_i32
  let v28 : BitVec 32 := Scalar.extui v27
  let c0_i32_7 : BitVec 32 := 0#32
  let v29 : BitVec 1 := Scalar.cmpi .ne v28 c0_i32_7
  v29

def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : Index := Scalar.indexCast v2
  let c0_10 : Index := 0#32
  let c0_11 : Index := 0#32
  ![v32.toNat, 0, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let c0_i32_18 : BitVec 32 := 0#32
  ![v2.toNat, 0, 0]
def k0_dev8 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v36 : BitVec 32 := Scalar.addi v2 c1_i32_12
  let c8_i32_13 : BitVec 32 := 8#32
  let v37 : BitVec 32 := Scalar.remsi v36 c8_i32_13
  let c1_i32_15 : BitVec 32 := 1#32
  let v38 : BitVec 32 := Scalar.muli v37 c1_i32_15
  let v39 : BitVec 32 := Scalar.addi c0_i32_16 v38
  v39.toNat
def k0_dev9 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v48 : BitVec 32 := Scalar.addi v2 c2_i32
  let c8_i32_21 : BitVec 32 := 8#32
  let v49 : BitVec 32 := Scalar.remsi v48 c8_i32_21
  let c1_i32_23 : BitVec 32 := 1#32
  let v50 : BitVec 32 := Scalar.muli v49 c1_i32_23
  let v51 : BitVec 32 := Scalar.addi c0_i32_24 v50
  v51.toNat
def k0_dev10 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v60 : BitVec 32 := Scalar.addi v2 c3_i32
  let c8_i32_29 : BitVec 32 := 8#32
  let v61 : BitVec 32 := Scalar.remsi v60 c8_i32_29
  let c1_i32_31 : BitVec 32 := 1#32
  let v62 : BitVec 32 := Scalar.muli v61 c1_i32_31
  let v63 : BitVec 32 := Scalar.addi c0_i32_32 v62
  v63.toNat
def k0_dev11 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v72 : BitVec 32 := Scalar.addi v2 c4_i32
  let c8_i32_37 : BitVec 32 := 8#32
  let v73 : BitVec 32 := Scalar.remsi v72 c8_i32_37
  let c1_i32_39 : BitVec 32 := 1#32
  let v74 : BitVec 32 := Scalar.muli v73 c1_i32_39
  let v75 : BitVec 32 := Scalar.addi c0_i32_40 v74
  v75.toNat
def k0_dev12 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v84 : BitVec 32 := Scalar.addi v2 c5_i32
  let c8_i32_45 : BitVec 32 := 8#32
  let v85 : BitVec 32 := Scalar.remsi v84 c8_i32_45
  let c1_i32_47 : BitVec 32 := 1#32
  let v86 : BitVec 32 := Scalar.muli v85 c1_i32_47
  let v87 : BitVec 32 := Scalar.addi c0_i32_48 v86
  v87.toNat
def k0_dev13 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v96 : BitVec 32 := Scalar.addi v2 c6_i32
  let c8_i32_53 : BitVec 32 := 8#32
  let v97 : BitVec 32 := Scalar.remsi v96 c8_i32_53
  let c1_i32_55 : BitVec 32 := 1#32
  let v98 : BitVec 32 := Scalar.muli v97 c1_i32_55
  let v99 : BitVec 32 := Scalar.addi c0_i32_56 v98
  v99.toNat
def k0_dev14 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v108 : BitVec 32 := Scalar.addi v2 c7_i32
  let c8_i32_61 : BitVec 32 := 8#32
  let v109 : BitVec 32 := Scalar.remsi v108 c8_i32_61
  let c1_i32_63 : BitVec 32 := 1#32
  let v110 : BitVec 32 := Scalar.muli v109 c1_i32_63
  let v111 : BitVec 32 := Scalar.addi c0_i32_64 v110
  v111.toNat
def k0_off5 (d0 : Dev nD) (c1_i32_70 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_69 : BitVec 32 := 8#32
  let v120 : BitVec 32 := Scalar.addi v2 c8_i32_69
  let v121 : BitVec 32 := Scalar.subi v120 c1_i32_70
  let c8_i32_71 : BitVec 32 := 8#32
  let v122 : BitVec 32 := Scalar.remsi v121 c8_i32_71
  ![v122.toNat]
def k0_off6 (d0 : Dev nD) (c1_i32_70 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_69 : BitVec 32 := 8#32
  let v120 : BitVec 32 := Scalar.addi v2 c8_i32_69
  let v121 : BitVec 32 := Scalar.subi v120 c1_i32_70
  let c8_i32_71 : BitVec 32 := 8#32
  let v122 : BitVec 32 := Scalar.remsi v121 c8_i32_71
  let c0_i32_75 : BitVec 32 := 0#32
  let c0_i32_76 : BitVec 32 := 0#32
  ![v122.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S65536x1024 : Shape := ⟨2, ![65536, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S_, .bf16⟩
  | .hbm, ⟨2, _⟩ => ⟨S_, .bf16⟩
  | .hbm, ⟨3, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.KernelIdeal.Contents.lean ====
/-
The contents the cumulative-sum kernel computes

Each of the eight devices holds a block `x` of 8192 rows of 1024 columns and works through it in 32 blocks of 256 rows.

* `xblk c b` — block `b` of device `c`'s rows;
* `carry c b` — the column sums of device `c`'s first `b` blocks, as the kernel accumulates them;
* `blk c b` — block `b` of the device's local cumulative sum: the triangular product of the block plus the carry;
* `total c = carry c 32` — the column sums of all of device `c`'s rows, the row it sends to the other devices;
* `commAll` — the eight totals, one row per device: what the exchange buffer of every device holds in the end;
* `pref c` — the sum of the rows of `commAll` that come before device `c`'s;
* `outPre c` — the local cumulative sum, `outFin c` — the result: the local cumulative sum with `pref c` added.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Pointwise
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ)

/-! ## The values -/

/-- Device `c`'s block of the input. -/
def xarr (c : Dev nD) : FVec F S8192x1024 .bf16 := m ((c : Thread nD τ).loc main_arg0)

set_option backward.proofsInPublic true in
/-- Block `b` (256 rows) of device `c`'s rows. -/
def xblk (c : Dev nD) (b : ℕ) : FVec F S256x1024 .bf16 :=
  fun i => xarr m c (ix2 ⟨(256 * b + (i 0).val) % 8192, Nat.mod_lt _ (by decide)⟩ (i 1))

/-- The column sums of device `c`'s first `b` blocks, accumulated block by block. -/
def carry (c : Dev nD) : ℕ → FVec F S1x1024 .f32
  | 0 => k0_pay1
  | b + 1 => k0_pay4 (xblk m c b) (carry c b)

/-- Block `b` of device `c`'s local cumulative sum. -/
def blk (c : Dev nD) (b : ℕ) : FVec F S256x1024 .bf16 := k0_pay3 (xblk m c b) (carry m c b)

/-- The column sums of all of device `c`'s rows. -/
def total (c : Dev nD) : FVec F S1x1024 .f32 := carry m c 32

/-- The eight devices' totals, one row per device. -/
def commAll : FVec F S8x1x1024 .f32 := fun i => total m (i 0) (ix2 0 (i 2))

/-- The device's number as the kernel computes it. -/
def posWord (c : Dev nD) : BitVec 32 := Scalar.remsi (Scalar.divsi (Dev.word c) 1#32) 8#32

/-- The sum of the totals of the devices before `c`. -/
def pref (c : Dev nD) : FVec F S1x1024 .f32 := k0_pay6 (posWord c) (commAll m)

set_option backward.proofsInPublic true in
/-- An array of 8192 rows given by its 32 blocks of 256 rows. -/
def ofBlocks (f : ℕ → FVec F S256x1024 .bf16) : FVec F S8192x1024 .bf16 :=
  fun i => f ((i 0).val / 256) (ix2 ⟨(i 0).val % 256, Nat.mod_lt _ (by decide)⟩ (i 1))

/-- Block `b` of the result: block `b` of the local cumulative sum with `pref c` added to every row. -/
def fin (c : Dev nD) (b : ℕ) : FVec F S256x1024 .bf16 := k0_pay9 (pref m c) (blk m c b)

/-- Device `c`'s local cumulative sum. -/
def outPre (c : Dev nD) : FVec F S8192x1024 .bf16 := ofBlocks (blk m c)

/-- Device `c`'s result. -/
def outFin (c : Dev nD) : FVec F S8192x1024 .bf16 := ofBlocks (fin m c)

/-- The result's first `n` blocks, the local cumulative sum after them. -/
def mix (c : Dev nD) (n : ℕ) : FVec F S8192x1024 .bf16 := ofBlocks fun b => if b < n then fin m c b else blk m c b

theorem mix_zero (c : Dev nD) : mix m c 0 = outPre m c := by
  unfold mix outPre; congr 1

theorem mix_all (c : Dev nD) : mix m c 32 = outFin m c := by
  funext i
  have h : (i 0).val < 8192 := (i 0).isLt
  show (if (i 0).val / 256 < 32 then fin m c ((i 0).val / 256) else blk m c ((i 0).val / 256)) _ = _
  rw [if_pos (by omega)]
  rfl

/-! ## The geometry of the blocks -/

/-- The rectangle of block `b`, at any spelling `off` of its offsets. -/
abbrev blkRect (off : Fin 2 → ℕ) (inb : ∀ a, off a + S256x1024.size a ≤ S8192x1024.size a) : Rect S8192x1024 :=
  Rect.unit (s := S8192x1024) off S256x1024.size inb

section Blocks
variable {b : ℕ} {off : Fin 2 → ℕ} {inb : ∀ a, off a + S256x1024.size a ≤ S8192x1024.size a} (ho : off = ![256 * b, 0])

include ho inb in
theorem blk_lt : b < 32 := by
  subst ho; have h := inb 0; have h' : 256 * b + 256 ≤ 8192 := h; omega

include ho in
/-- Element `i` of the block's rectangle is row `256 b + i 0` of the array. -/
theorem blkRect_idx (i : S256x1024.Idx) :
    (blkRect off inb).idx i = ix2 ⟨256 * b + (i 0).val, by have := blk_lt (inb := inb) ho; have h : (i 0).val < 256 := (i 0).isLt; omega⟩ (i 1) := by
  subst ho
  funext a
  refine Fin.ext ?_
  match a with
  | ⟨0, _⟩ => show 256 * b + 1 * (i 0).val = 256 * b + (i 0).val; rw [Nat.one_mul]
  | ⟨1, _⟩ => show 0 + 1 * (i 1).val = (i 1).val; omega

include ho in
/-- Block `b` of an array given by its blocks. -/
theorem ofBlocks_idx (f : ℕ → FVec F S256x1024 .bf16) (i : S256x1024.Idx) : ofBlocks f ((blkRect off inb).idx i) = f b i := by
  rw [blkRect_idx (inb := inb) ho]
  have hi : (i 0).val < 256 := (i 0).isLt
  show f ((256 * b + (i 0).val) / 256) (ix2 ⟨(256 * b + (i 0).val) % 256, _⟩ (i 1)) = f b i
  have h1 : (256 * b + (i 0).val) / 256 = b := by omega
  have h2 : (256 * b + (i 0).val) % 256 = (i 0).val := by omega
  rw [h1]
  congr 1
  funext a
  refine Fin.ext ?_
  match a with
  | ⟨0, _⟩ => exact h2
  | ⟨1, _⟩ => rfl

include ho in
/-- A row is in block `b` exactly when it is one of its 256 rows. -/
theorem mem_blkRect (i : S8192x1024.Idx) : i ∈ (blkRect off inb).set ↔ (i 0).val / 256 = b := by
  rw [Rect.mem_set_unit]
  subst ho
  constructor
  · intro h
    have h0 : 256 * b ≤ (i 0).val ∧ (i 0).val < 256 * b + 256 := h 0
    omega
  · intro h a
    match a with
    | ⟨0, _⟩ => show 256 * b ≤ (i 0).val ∧ (i 0).val < 256 * b + 256; omega
    | ⟨1, _⟩ => have h1 : (i 1).val < 1024 := (i 1).isLt
                show 0 ≤ (i 1).val ∧ (i 1).val < 0 + 1024; omega

end Blocks

/-- An index of an array given by its blocks, in its block. -/
theorem ofBlocks_congr {f g : ℕ → FVec F S256x1024 .bf16} {i : S8192x1024.Idx} (h : f ((i 0).val / 256) = g ((i 0).val / 256)) :
    ofBlocks f i = ofBlocks g i := by unfold ofBlocks; rw [h]

end Cert.KernelIdealProof

end
-- ==== Proof.KernelIdeal.Protocol.lean ====
/-
The exchange between the devices: its rows, its semaphores, its schedule

Every device works out the column sums `total` of its own rows and sends them to the seven other devices; each then adds
up the totals of the devices before it. Row `j` of a device's exchange buffer is for device `j`'s total.

* At its first grid point a device signals the barrier semaphore of each of the seven others and waits for seven signals.
  The signal from device `p` to device `c` lends `c` row `c` of `p`'s exchange buffer.
* At its last grid point device `c` writes its total into row `c` of its own exchange buffer and copies this row to row
  `c` of each of the others: seven copies, each with a send semaphore of its own, all completing on the receive semaphore
  number `c` of the device they go to. Each copy borrows one of seven shares of the source row.
* It then waits for the seven copies that come to it, and in the end for the seven it made.

Every semaphore has one round: a barrier semaphore seven duties of one unit, a send or receive semaphore one duty of
the row's credit. The other seven devices are named by `k < 7`: `fwd k c` comes `k + 1` places after `c` on the circle
of eight, `bwd k c` as many before.
-/
module

public import proofs.«01_k».proof.Proof.KernelIdeal.Contents
public import Idealize.ShloMosaic.Lib.Ring

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

/-! ## The resource algebra: the pipeline's copy of the rounds and the exchange's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The seven other devices -/

set_option backward.proofsInPublic true in
/-- The device `k + 1` places after `c`. -/
def fwd (k : Fin 7) (c : Dev nD) : Dev nD := ⟨(c.val + (k.val + 1)) % 8, Nat.mod_lt _ (by decide)⟩
set_option backward.proofsInPublic true in
/-- The device `k + 1` places before `c`. -/
def bwd (k : Fin 7) (c : Dev nD) : Dev nD := ⟨(c.val + 7 - k.val) % 8, Nat.mod_lt _ (by decide)⟩

theorem bwd_fwd (k : Fin 7) (c : Dev nD) : bwd k (fwd k c) = c := by revert k c; decide
theorem fwd_bwd (k : Fin 7) (c : Dev nD) : fwd k (bwd k c) = c := by revert k c; decide
theorem fwd_ne (k : Fin 7) (c : Dev nD) : c ≠ fwd k c := by revert k c; decide
theorem bwd_ne (k : Fin 7) (c : Dev nD) : bwd k c ≠ c := by revert k c; decide
theorem bwd_inj (c : Dev nD) : Function.Injective fun k : Fin 7 => bwd k c := by revert c; decide
theorem fwd_inj (c : Dev nD) : Function.Injective fun k : Fin 7 => fwd k c := by revert c; decide

/-- The step of `k + 1` places, a permutation of the devices. -/
def step (k : Fin 7) : Dev nD ≃ Dev nD := ⟨fwd k, bwd k, bwd_fwd k, fwd_bwd k⟩

omit [FloatOps F] in
/-- A family over the devices is its member at `c` and the members at the devices before it. -/
theorem bigSep_around (c : Dev nD) (Φ : Dev nD → sProp 𝕄) :
    bigSep Finset.univ Φ = iprop(Φ c ∗ bigSep Finset.univ fun k : Fin 7 => Φ (bwd k c)) := by
  rw [bigSep_erase (Finset.mem_univ c), show Finset.univ.erase c = Finset.univ.map ⟨fun k : Fin 7 => bwd k c, bwd_inj c⟩ from by
    revert c; decide, bigSep_map]
  rfl
omit [FloatOps F] in
/-- A family over the devices is its member at `c` and the members at the devices after it. -/
theorem bigSep_ahead (c : Dev nD) (Φ : Dev nD → sProp 𝕄) :
    bigSep Finset.univ Φ = iprop(Φ c ∗ bigSep Finset.univ fun k : Fin 7 => Φ (fwd k c)) := by
  rw [bigSep_erase (Finset.mem_univ c), show Finset.univ.erase c = Finset.univ.map ⟨fun k : Fin 7 => fwd k c, fwd_inj c⟩ from by
    revert c; decide, bigSep_map]
  rfl

/-! ## The exchange buffer and its rows -/

abbrev commM : Memref sig .tc .vmem S8x1x1024 .f32 := Memref.whole cc0_scratch0
abbrev carM : Memref sig .tc .vmem S1x1024 .f32 := Memref.whole cc0_scratch1

theorem row_inb (j : Dev nD) : ∀ a, (![j.val, 0, 0] : Fin 3 → ℕ) a + S1x1x1024.size a ≤ S8x1x1024.size a := by revert j; decide

/-- The rectangle of a row, at any spelling `off` of its offsets. -/
abbrev rowRect (off : Fin 3 → ℕ) (inb : ∀ a, off a + S1x1x1024.size a ≤ S8x1x1024.size a) : Rect S8x1x1024 :=
  Rect.unit (s := S8x1x1024) off S1x1x1024.size inb

/-- The memref of a row, at any spelling of its offsets. -/
abbrev rowAt (off : Fin 3 → ℕ) (inb : ∀ a, off a + S1x1x1024.size a ≤ S8x1x1024.size a) : Memref sig .tc .vmem S1x1024 .f32 :=
  (commM.slice (rowRect off inb) (fun _ => rfl)).squeeze S1x1024 squeezes_S1x1x1024_S1x1024

/-- Row `j` of the exchange buffer. -/
abbrev rowM (j : Dev nD) : Memref sig .tc .vmem S1x1024 .f32 := rowAt ![j.val, 0, 0] (row_inb j)

theorem rowAt_eq {off : Fin 3 → ℕ} {inb} {j : Dev nD} (h : off = ![j.val, 0, 0]) : rowAt off inb = rowM j := by subst h; rfl

/-- The elements of row `j`. -/
def rowSet (j : Dev nD) : Finset S8x1x1024.Idx := (rowRect ![j.val, 0, 0] (row_inb j)).set

theorem row_set (j : Dev nD) : (rowM j).view.set = rowSet j :=
  (Memref.set_view_squeeze _ squeezes_S1x1x1024_S1x1024).trans (View.set_slice_whole _ _)

theorem mem_row (j : Dev nD) (i : S8x1x1024.Idx) : i ∈ rowSet j ↔ i 0 = j := by
  unfold rowSet
  rw [Rect.mem_set_unit]
  constructor
  · intro h
    have h0 : j.val ≤ (i 0).val ∧ (i 0).val < j.val + 1 := h 0
    exact Fin.ext (by omega)
  · intro h a
    subst h
    have h1 : (i 1).val < 1 := (i 1).isLt
    have h2 : (i 2).val < 1024 := (i 2).isLt
    match a with
    | ⟨0, _⟩ => show (i 0).val ≤ (i 0).val ∧ (i 0).val < (i 0).val + 1; omega
    | ⟨1, _⟩ => show 0 ≤ (i 1).val ∧ (i 1).val < 0 + 1; omega
    | ⟨2, _⟩ => show 0 ≤ (i 2).val ∧ (i 2).val < 0 + 1024; omega

theorem rows_disjoint (j j' : Dev nD) (h : j ≠ j') : Disjoint (rowSet j) (rowSet j') := by
  rw [Finset.disjoint_left]
  intro i hi hi'
  exact h (((mem_row j i).mp hi).symm.trans ((mem_row j' i).mp hi'))

theorem rows_cover (d : Dev nD) : (Finset.univ : Finset (Dev nD)).biUnion (fun j => (rowSet j : Finset (Idx ((d : Thread nD τ).loc cc0_scratch0)))) = Finset.univ := by
  refine Finset.eq_univ_of_forall fun i => ?_
  have hi : i ∈ rowSet ((show S8x1x1024.Idx from i) 0) := (mem_row _ _).mpr rfl
  exact Finset.mem_biUnion.mpr ⟨_, Finset.mem_univ _, hi⟩

/-- Row `j` of device `d`'s exchange buffer, held at share `q` with contents `f`. -/
def row (d j : Dev nD) (q : PosShare TreeShare) (f : FVec F S8x1x1024 .f32) : sProp 𝕄 :=
  ((d : Thread nD τ).loc cc0_scratch0) ↦[rowSet j]{q} f

omit [FloatOps F] in
instance row_storable (d j : Dev nD) (q) (f) : BI.Storable (upEmb : UEmb _ 𝕄) (row (F := F) d j q f) := by unfold row; infer_instance

omit [FloatOps F] in
/-- The row through its own memref. -/
theorem row_view (d j : Dev nD) (q) (f : FVec F S8x1x1024 .f32) :
    ((rowM j).view.loc (d : Thread nD τ) ↦[(rowM j).view.set]{q} f : sProp 𝕄) = row d j q f := by rw [row_set]; rfl

omit [FloatOps F] in
theorem row_congr (d j : Dev nD) (q) {f g : FVec F S8x1x1024 .f32} (h : ∀ i, i 0 = j → f i = g i) : row d j q f = row d j q g := by
  unfold row
  exact pointsTo_congr fun i hi => h i ((mem_row j i).mp hi)

/-- Device `d`'s whole exchange buffer, held at share `q` with contents `f`. -/
def comm (d : Dev nD) (q : PosShare TreeShare) (f : FVec F S8x1x1024 .f32) : sProp 𝕄 := ((d : Thread nD τ).loc cc0_scratch0) ↦{q} f

omit [FloatOps F] in
/-- The exchange buffer is its eight rows. -/
theorem comm_rows (d : Dev nD) (q) (f : FVec F S8x1x1024 .f32) : comm d q f = bigSep Finset.univ fun j => row d j q f :=
 by
  unfold comm row
  have h := pointsTo_biUnion (Val := Elt F) (Ix := Unit) (Name := ℕ) (U := UU) (Lvl := ℕ) (ℓ := (d : Thread nD τ).loc cc0_scratch0) (q := q) (f := f) (Finset.univ : Finset (Dev nD)) (fun j => rowSet j) (fun j _ j' _ h => rows_disjoint j j' h)
  rw [rows_cover d] at h
  exact h

/-- Eight rows, each at some contents, are the buffer at some contents. -/
theorem comm_join (d : Dev nD) : (bigSep Finset.univ fun j => iprop(∃ f, row (F := F) d j fullShare f)) ⊢ iprop(∃ f, comm (F := F) d fullShare f) := by
  have f₀ : FVec F S8x1x1024 .f32 := fun _ => Scalar.ofBits .f32 0
  have : Nonempty (FVec F S8x1x1024 .f32) := ⟨f₀⟩
  refine (Idealize.SL.BI.bigSep_exists_pi Finset.univ (fun j (f : FVec F S8x1x1024 .f32) => row d j fullShare f)).trans ?_
  have hj : ∀ fs : Dev nD → FVec F S8x1x1024 .f32,
      (bigSep Finset.univ fun j => row d j fullShare (fs j)) ⊢ iprop(∃ f, comm (F := F) d fullShare f) := by
    intro fs
    have h := pointsTo_biUnion_join (Val := Elt F) (Ix := Unit) (Name := ℕ) (U := UU) (Lvl := ℕ) (ℓ := (d : Thread nD τ).loc cc0_scratch0)
      (q := fullShare) (Finset.univ : Finset (Dev nD)) (fun j => rowSet j) fs f₀ (fun j _ j' _ h => rows_disjoint j j' h)
    rw [rows_cover d] at h
    unfold row comm
    refine h.trans ?_
    iintro ⟨%g, -, H⟩
    iexists g
    iexact H
  iintro ⟨%fs, H⟩
  iapply (hj fs)
  iexact H

/-! ## The seven shares of a row and the share that is kept -/

/-- Share `k` of `n + 1` shares of `q`. -/
def pieceAt : ℕ → ℕ → PosShare TreeShare → PosShare TreeShare
  | 0, _, q => q
  | _ + 1, 0, q => q.left
  | n + 1, k + 1, q => pieceAt n k q.right

/-- What is left of `q` after `n` shares. -/
def restAt : ℕ → PosShare TreeShare → PosShare TreeShare
  | 0, q => q
  | n + 1, q => restAt n q.right

/-- The share of the row that copy `k` borrows, and the share the device keeps meanwhile. -/
def sh (k : Fin 7) : PosShare TreeShare := pieceAt 7 k.val fullShare
def shR : PosShare TreeShare := restAt 7 fullShare

omit [FloatOps F] in
theorem row_pieces (d j : Dev nD) (f : FVec F S8x1x1024 .f32) : ∀ (n : ℕ) (q : PosShare TreeShare),
    row d j q f = iprop((bigSep Finset.univ fun k : Fin n => row d j (pieceAt n k.val q) f) ∗ row d j (restAt n q) f)
  | 0, q => by
    rw [show (Finset.univ : Finset (Fin 0)) = ∅ from rfl, bigSep_empty]
    exact (BI.equiv_iff.mp ⟨emp_sep.1, emp_sep.2⟩).symm
  | n + 1, q => by
    have hs : row d j q f = iprop(row d j q.left f ∗ row d j q.right f) := by
      unfold row
      exact BI.equiv_iff.mp ⟨(pointsTo_share (PosShare.mem_left_op_right q)).1, (pointsTo_share (PosShare.mem_left_op_right q)).2⟩
    rw [hs, row_pieces d j f n q.right, Fin.univ_succ, Finset.cons_eq_insert, bigSep_insert (by simp [Fin.succ_ne_zero]), bigSep_map]
    show iprop(row d j q.left f ∗ (bigSep Finset.univ fun k : Fin n => row d j (pieceAt n k.val q.right) f) ∗ row d j (restAt n q.right) f)
      = iprop((row d j q.left f ∗ bigSep Finset.univ fun k : Fin n => row d j (pieceAt n k.val q.right) f) ∗ row d j (restAt n q.right) f)
    exact (BI.equiv_iff.mp ⟨Idealize.SL.BI.sep_assoc, Idealize.SL.BI.sep_assoc'⟩).symm

omit [FloatOps F] in
/-- A row held whole is its seven shares and the share kept. -/
theorem row_shares (d j : Dev nD) (f : FVec F S8x1x1024 .f32) :
    row d j fullShare f = iprop((bigSep Finset.univ fun k : Fin 7 => row d j (sh k) f) ∗ row d j shR f) :=
  row_pieces d j f 7 fullShare

/-! ## Reading and writing rows -/

omit [FloatOps F] in
/-- A copy of row `j` onto row `j` leaves the source's row there. -/
theorem row_landed (d j : Dev nD) (fd fs : FVec F S8x1x1024 .f32) :
    ((rowM j).view.loc (d : Thread nD τ) ↦[(rowM j).view.set]{fullShare}
        ((rowM j).view.write (Elt F) fd ((rowM j).view.read (Elt F) fs) Finset.univ) : sProp 𝕄) = row d j fullShare fs := by
  rw [← row_view]
  refine pointsTo_congr fun i hi => ?_
  rw [View.write_read_eq_piecewise]
  exact Finset.piecewise_eq_of_mem _ _ _ hi

/-- The device's total, as it is stored, is its row of `commAll`. -/
theorem total_read (c : Dev nD) : (commM.access (rowRect ![c.val, 0, 0] (row_inb c)) : View sig .tc _ _ _).read (Elt F) (commAll m) = k0_pay5 (total m c) := by
  funext x
  show commAll m ((rowRect ![c.val, 0, 0] (row_inb c)).idx x) = _
  have e : (rowRect ![c.val, 0, 0] (row_inb c)).idx x = ix3 c 0 (x 2) := by
    have h0 : (x 0).val < 1 := (x 0).isLt
    have h1 : (x 1).val < 1 := (x 1).isLt
    funext a
    refine Fin.ext ?_
    match a with
    | ⟨0, _⟩ => show c.val + 1 * (x 0).val = c.val; omega
    | ⟨1, _⟩ => show 0 + 1 * (x 1).val = 0; omega
    | ⟨2, _⟩ => show 0 + 1 * (x 2).val = (x 2).val; omega
  rw [e]
  show total m c (ix2 0 (x 2)) = _
  idx_vars x
  pointwise [k0_pay5]

/-- After the device stores its total, its own row holds it. -/
theorem row_stored (c : Dev nD) (f : FVec F S8x1x1024 .f32) :
    row c c fullShare ((commM.access (rowRect ![c.val, 0, 0] (row_inb c)) : View sig .tc _ _ _).write (Elt F) f (k0_pay5 (total m c)) Finset.univ)
      = row c c fullShare (commAll m) := by
  refine row_congr c c _ fun i hi => ?_
  rw [← total_read, View.write_read_eq_piecewise]
  exact Finset.piecewise_eq_of_mem _ _ _ (by
    show i ∈ (View.slice (View.whole cc0_scratch0) (rowRect ![c.val, 0, 0] (row_inb c))).set
    rw [View.set_slice_whole]; exact (mem_row c i).mpr hi)

end Cert.KernelIdealProof

end
-- ==== Proof.KernelIdeal.Schedule.lean ====
/-
The semaphores of the exchange and their schedule

Per device: the barrier semaphore, eight send semaphores (number `k + 1` for the copy to the device `k + 1` places ahead;
number 0 is not used) and eight receive semaphores (number `j` for device `j`'s row; the device's own is not used).
-/
module

public import proofs.«01_k».proof.Proof.KernelIdeal.Protocol

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ)

/-! ## The semaphores -/

/-- The barrier semaphore the program names. -/
abbrev barS : Sem sig := (SemArray.scalar (sig.barrier 0 rfl) : Sems sig S_).sem

set_option backward.proofsInPublic true in
/-- The kernel's own DMA semaphores: eight send semaphores, then eight receive semaphores. -/
def ownQ (i : Fin 16) : DmaSem sig := ⟨3 + i.val, by have := i.isLt; show 3 + i.val < 19; omega⟩
set_option backward.proofsInPublic true in
/-- The send semaphore of copy `k`. -/
def sendQ (k : Fin 7) : DmaSem sig := ⟨4 + k.val, by have := k.isLt; show 4 + k.val < 19; omega⟩
set_option backward.proofsInPublic true in
/-- The receive semaphore of device `j`'s row. -/
def recvQ (j : Dev nD) : DmaSem sig := ⟨11 + j.val, by have : j.val < 8 := j.isLt; show 11 + j.val < 19; omega⟩

abbrev barCell (c : Dev nD) : GSem nD τ sig := ((c : Thread nD τ), .reg barS)
abbrev ownCell (c : Dev nD) (i : Fin 16) : GSem nD τ sig := ((c : Thread nD τ), .dma (ownQ i))
abbrev sendCell (c : Dev nD) (k : Fin 7) : GSem nD τ sig := ((c : Thread nD τ), .dma (sendQ k))
abbrev recvCell (c j : Dev nD) : GSem nD τ sig := ((c : Thread nD τ), .dma (recvQ j))

/-- The kernel's own semaphores, as the launch indexes them; -/
abbrev osem (i : Fin 16) : SemLoc sig := .dma (ownQ i)
/-- all those of the exchange: the barrier semaphore first. -/
abbrev csem : Fin 17 → SemLoc sig := Fin.cases (.reg barS) osem
abbrev kcell (ck : Dev nD × Fin 17) : GSem nD τ sig := ((ck.1 : Thread nD τ), csem ck.2)

set_option backward.proofsInPublic true in
/-- Where the send and receive semaphores come among the seventeen. -/
def sendIx (k : Fin 7) : Fin 17 := ⟨k.val + 2, by have := k.isLt; omega⟩
set_option backward.proofsInPublic true in
def recvIx (j : Dev nD) : Fin 17 := ⟨j.val + 9, by have : j.val < 8 := j.isLt; omega⟩

theorem kcell_send (c : Dev nD) (k : Fin 7) : kcell (c, sendIx k) = sendCell c k := by
  have h : csem (sendIx k) = .dma (sendQ k) := by revert k; decide
  exact congrArg _ h
theorem kcell_recv (c j : Dev nD) : kcell (c, recvIx j) = recvCell c j := by
  have h : csem (recvIx j) = .dma (recvQ j) := by revert j; decide
  exact congrArg _ h

theorem sendQ_inj : Function.Injective sendQ := by decide
theorem recvQ_inj : Function.Injective recvQ := by decide

omit [FloatOps F] in
/-- The sixteen own semaphores: send semaphore 0, the seven of the copies, the device's own receive semaphore, the seven of
    the other devices' rows. -/
theorem own_split (c : Dev nD) (Φ : DmaSem sig → sProp 𝕄) :
    bigSep Finset.univ (fun i : Fin 16 => Φ (ownQ i))
      = iprop((Φ (ownQ 0) ∗ bigSep Finset.univ fun k : Fin 7 => Φ (sendQ k)) ∗ (Φ (recvQ c) ∗ bigSep Finset.univ fun k : Fin 7 => Φ (recvQ (bwd k c)))) := by
  have e : (Finset.univ : Finset (Fin 16)) = (Finset.univ.map (Fin.castAddEmb 8 : Fin 8 ↪ Fin (8 + 8))) ∪ (Finset.univ.map (Fin.natAddEmb 8 : Fin 8 ↪ Fin (8 + 8))) := by decide
  have h₁ : bigSep Finset.univ (fun k : Fin 8 => Φ (ownQ ((Fin.castAddEmb 8 : Fin 8 ↪ Fin (8 + 8)) k)))
      = iprop(Φ (ownQ 0) ∗ bigSep Finset.univ fun k : Fin 7 => Φ (sendQ k)) := by
    rw [Fin.univ_succ, Finset.cons_eq_insert, bigSep_insert (by simp [Fin.succ_ne_zero]), bigSep_map]
    have h : ∀ k : Fin 7, ownQ ((Fin.castAddEmb 8 : Fin 8 ↪ Fin (8 + 8)) k.succ) = sendQ k := by decide
    exact congrArg (fun X : sProp 𝕄 => iprop(Φ (ownQ 0) ∗ X)) (bigSep_congr fun k _ => congrArg Φ (h k))
  have h₂ : bigSep Finset.univ (fun k : Fin 8 => Φ (ownQ ((Fin.natAddEmb 8 : Fin 8 ↪ Fin (8 + 8)) k)))
      = iprop(Φ (recvQ c) ∗ bigSep Finset.univ fun k : Fin 7 => Φ (recvQ (bwd k c))) := by
    have h : ∀ k : Fin 8, ownQ ((Fin.natAddEmb 8 : Fin 8 ↪ Fin (8 + 8)) k) = recvQ k := by decide
    rw [bigSep_congr (Ψ := fun j : Dev nD => Φ (recvQ j)) fun k _ => congrArg Φ (h k)]
    exact bigSep_around c fun j => Φ (recvQ j)
  rw [e, bigSep_union (by decide), bigSep_map, bigSep_map, h₁, h₂]
  rfl

/-! ## Payloads -/

/-- The credit of a row. -/
abbrev N : ℕ := (rowM 0).view.dmaCredit
theorem N_pos : 0 < N := View.dmaCredit_pos _ (by decide)
theorem credit_row (j : Dev nD) : (rowM j).view.dmaCredit = N := rfl

/-- What the signal of the device `k + 1` places before `c` hands `c`: row `c` of that device's exchange buffer. -/
def barPay (c : Dev nD) (k : Fin 7) : sProp 𝕄 := iprop(∃ f, row (F := F) (bwd k c) c fullShare f)
/-- What copy `k` of `c` gives back: the share of the row it borrowed. -/
def sendPay (c : Dev nD) (k : Fin 7) : sProp 𝕄 := row c c (sh k) (commAll m)
/-- What the copy from `j` to `c` hands `c`: row `j`, holding `j`'s total. -/
def recvPay (c j : Dev nD) : sProp 𝕄 := row c j fullShare (commAll m)

/-! ## The schedule -/

abbrev IsBar (g : GSem nD τ sig) : Prop := g.1.2 = .tc ∧ g.2 = .reg barS
abbrev IsXfer (g : GSem nD τ sig) : Prop :=
  g.1.2 = .tc ∧ ((∃ k : Fin 7, g.2 = .dma (sendQ k)) ∨ ∃ k : Fin 7, g.2 = .dma (recvQ (bwd k g.1.1)))

set_option backward.proofsInPublic true in
/-- One round, round 0: seven duties of one unit at a barrier semaphore, one duty of a row's credit at a send or receive
    semaphore in use. -/
def ringRd : Rounds.Schedule (GSem nD τ sig) (Fin 7) 𝕄 where
  duties g r := open Classical in if r = 0 ∧ IsBar g then Finset.univ else if r = 0 ∧ IsXfer g then {0} else ∅
  unitless _ := False
  amount g _ _ := match g.2 with
    | .reg _ => 1
    | .dma _ => N
  payload g _ d := match g.2 with
    | .reg _ => barPay g.1.1 d
    | .dma q => if q.val < 11 then sendPay m g.1.1 ⟨(q.val - 4) % 7, Nat.mod_lt _ (by decide)⟩
        else recvPay m g.1.1 ⟨(q.val - 11) % 8, Nat.mod_lt _ (by decide)⟩
  amount_pos g _ _ _ := by
    rcases g with ⟨_, _ | _⟩
    · exact Nat.one_pos
    · exact N_pos

instance ringRd_payload_storable (g : GSem nD τ sig) (r : ℕ) (d : Fin 7) :
    BI.Storable (upEmb : UEmb _ 𝕄) ((ringRd (F := F) m).payload g r d) := by
  rcases g with ⟨t, s | q⟩
  · show BI.Storable upEmb (barPay t.1 d)
    unfold barPay; infer_instance
  · show BI.Storable upEmb (if q.val < 11 then sendPay m t.1 _ else recvPay m t.1 _)
    unfold sendPay recvPay
    split <;> infer_instance

section Sched
variable (c : Dev nD)

theorem not_bar_send (k : Fin 7) : ¬ IsBar (sendCell c k) := fun h => by cases h.2
theorem not_bar_recv (j : Dev nD) : ¬ IsBar (recvCell c j) := fun h => by cases h.2

theorem duties_bar : (ringRd (F := F) m).duties (barCell c) 0 = Finset.univ := by dsimp only [ringRd]; exact if_pos ⟨rfl, rfl, rfl⟩
theorem duties_send (k : Fin 7) : (ringRd (F := F) m).duties (sendCell c k) 0 = {0} := by
  dsimp only [ringRd]; rw [if_neg (fun h => not_bar_send c k h.2)]; exact if_pos ⟨rfl, rfl, .inl ⟨k, rfl⟩⟩
theorem duties_recv (k : Fin 7) : (ringRd (F := F) m).duties (recvCell c (bwd k c)) 0 = {0} := by
  dsimp only [ringRd]; rw [if_neg (fun h => not_bar_recv c _ h.2)]; exact if_pos ⟨rfl, rfl, .inr ⟨k, rfl⟩⟩
theorem duties_recv_fwd (k : Fin 7) : (ringRd (F := F) m).duties (recvCell (fwd k c) c) 0 = {0} := by
  have h := duties_recv m (fwd k c) k
  rwa [bwd_fwd] at h
theorem duties_later (g : GSem nD τ sig) : ∀ r, 1 ≤ r → (ringRd (F := F) m).duties g r = ∅ :=
  fun r hr => by dsimp only [ringRd]; rw [if_neg fun h => by omega, if_neg fun h => by omega]

theorem own0_ne_send : ∀ k : Fin 7, ownQ 0 ≠ sendQ k := by decide
theorem own0_ne_recv : ∀ j : Dev nD, ownQ 0 ≠ recvQ j := by decide
theorem recv_ne_send : ∀ (j : Dev nD) (k : Fin 7), recvQ j ≠ sendQ k := by decide

/-- The send semaphore that is not used has no duty; -/
theorem duties_own0 (r : ℕ) : (ringRd (F := F) m).duties (ownCell c 0) r = ∅ := by
  dsimp only [ringRd]
  rw [if_neg (fun h => by cases h.2.2), if_neg]
  rintro ⟨-, -, ⟨k, h⟩ | ⟨k, h⟩⟩
  · exact own0_ne_send k (SemLoc.dma.inj h)
  · exact own0_ne_recv _ (SemLoc.dma.inj h)
/-- nor has the device's own receive semaphore. -/
theorem duties_recv_self (r : ℕ) : (ringRd (F := F) m).duties (recvCell c c) r = ∅ := by
  dsimp only [ringRd]
  rw [if_neg (fun h => by cases h.2.2), if_neg]
  rintro ⟨-, -, ⟨k, h⟩ | ⟨k, h⟩⟩
  · exact recv_ne_send c k (SemLoc.dma.inj h)
  · exact bwd_ne k c (recvQ_inj (SemLoc.dma.inj h)).symm

theorem amount_bar (r : ℕ) (d : Fin 7) : (ringRd (F := F) m).amount (barCell c) r d = 1 := rfl
theorem amount_dma (t : Thread nD τ) (q : DmaSem sig) (r : ℕ) (d : Fin 7) : (ringRd (F := F) m).amount (t, .dma q) r d = N := rfl

theorem expect_bar : (ringRd (F := F) m).expect (barCell c) 0 = 7 := by
  unfold Schedule.expect Schedule.amountOf
  rw [duties_bar, Finset.sum_congr rfl fun d _ => amount_bar m c 0 d, Finset.sum_const, Finset.card_univ, Fintype.card_fin, smul_eq_mul]
theorem expect_send (k : Fin 7) : (ringRd (F := F) m).expect (sendCell c k) 0 = N := by
  unfold Schedule.expect Schedule.amountOf; rw [duties_send, Finset.sum_singleton, amount_dma]
theorem expect_recv (k : Fin 7) : (ringRd (F := F) m).expect (recvCell c (bwd k c)) 0 = N := by
  unfold Schedule.expect Schedule.amountOf; rw [duties_recv, Finset.sum_singleton, amount_dma]

theorem payload_bar (r : ℕ) (d : Fin 7) : (ringRd (F := F) m).payload (barCell c) r d = barPay c d := rfl
theorem payload_send (k : Fin 7) (r : ℕ) (d : Fin 7) : (ringRd (F := F) m).payload (sendCell c k) r d = sendPay m c k := by
  show (if (sendQ k).val < 11 then sendPay m c ⟨((sendQ k).val - 4) % 7, _⟩ else recvPay m c _) = _
  have h : ∀ k : Fin 7, (sendQ k).val < 11 ∧ ((sendQ k).val - 4) % 7 = k.val := by decide
  rw [if_pos (h k).1]
  congr 1
  exact Fin.ext (h k).2
theorem payload_recv (j : Dev nD) (r : ℕ) (d : Fin 7) : (ringRd (F := F) m).payload (recvCell c j) r d = recvPay m c j := by
  show (if (recvQ j).val < 11 then sendPay m c _ else recvPay m c ⟨((recvQ j).val - 11) % 8, _⟩) = _
  have h : ∀ j : Dev nD, ¬ (recvQ j).val < 11 ∧ ((recvQ j).val - 11) % 8 = j.val := by decide
  rw [if_neg (h j).1]
  congr 1
  exact Fin.ext (h j).2

/-- All of a round's payloads. -/
theorem rest_bar : bigSep ((ringRd (F := F) m).duties (barCell c) 0 \ ∅) (fun d => (ringRd (F := F) m).payload (barCell c) 0 d)
    = bigSep Finset.univ fun k : Fin 7 => barPay (F := F) c k := by
  rw [Finset.sdiff_empty, duties_bar]; rfl
theorem rest_send (k : Fin 7) : bigSep ((ringRd (F := F) m).duties (sendCell c k) 0 \ ∅) (fun d => (ringRd (F := F) m).payload (sendCell c k) 0 d)
    = sendPay m c k := by
  rw [Finset.sdiff_empty, duties_send, bigSep_singleton, payload_send]
theorem rest_recv (k : Fin 7) : bigSep ((ringRd (F := F) m).duties (recvCell c (bwd k c)) 0 \ ∅) (fun d => (ringRd (F := F) m).payload (recvCell c (bwd k c)) 0 d)
    = recvPay m c (bwd k c) := by
  rw [Finset.sdiff_empty, duties_recv, bigSep_singleton, payload_recv]

end Sched

/-! ## What each device owes at launch; the levels -/

/-- The sum of `f k` over the `k` from `n` on. -/
def sumFrom (f : Fin 7 → CellTallies nD τ sig Unit) (n : ℕ) : CellTallies nD τ sig Unit := ∑ k ∈ rangeSet 7 n 7, f k

theorem sumFrom_step (f : Fin 7 → CellTallies nD τ sig Unit) (k : Fin 7) : sumFrom f k.val = sumFrom f (k.val + 1) + f k := by
  unfold sumFrom
  rw [rangeSet_head k.isLt k.isLt, Finset.sum_insert (head_not_mem_rangeSet _), add_comm]
theorem sumFrom_end (f : Fin 7 → CellTallies nD τ sig Unit) : sumFrom f 7 = 0 := by
  unfold sumFrom; rw [rangeSet_empty le_rfl, Finset.sum_empty]

/-- A row's credit at the receive semaphore that copy `k` completes on; a unit at the barrier semaphore that signal `k` goes to. -/
def owedRecv (c : Dev nD) (k : Fin 7) : CellTallies nD τ sig Unit := tallyAt (recvCell (fwd k c) c) () N
def owedBar (c : Dev nD) (k : Fin 7) : CellTallies nD τ sig Unit := tallyAt (barCell (fwd k c)) () 1

/-- After its signals a device owes the seven copies; at launch the seven signals too. -/
def O₁ (c : Dev nD) : CellTallies nD τ sig Unit := sumFrom (owedRecv c) 0
def O₀ (c : Dev nD) : CellTallies nD τ sig Unit := O₁ c + sumFrom (owedBar c) 0

def L (g : GSem nD τ sig) : Finset Unit := if g.1.2 = .tc then {()} else ∅
/-- Barrier semaphores at 1, receive semaphores at 2, all others at 0. -/
def lv (g : GSem nD τ sig) (_ : Unit) : ℕ := match g.2 with
  | .reg _ => 1
  | .dma q => if q.val < 11 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c j : Dev nD) : lv (recvCell c j) () = 2 := by
  have h : ∀ j : Dev nD, ¬ (recvQ j).val < 11 := by decide
  exact if_neg (h j)

theorem sumFrom_pos {f : Fin 7 → CellTallies nD τ sig Unit} {n : ℕ} {g : GSem nD τ sig} {u : Unit} (h : 0 < sumFrom f n g u) :
    ∃ k, 0 < f k g u := by
  unfold sumFrom at h
  rw [Finset.sum_apply, Finsupp.finset_sum_apply] at h
  obtain ⟨k, -, hk⟩ := Finset.exists_ne_zero_of_sum_ne_zero (Nat.pos_iff_ne_zero.mp h)
  exact ⟨k, Nat.pos_of_ne_zero hk⟩

theorem owedRecv_pos {c : Dev nD} {k : Fin 7} {g : GSem nD τ sig} {u : Unit} (h : 0 < owedRecv c k g u) : g = recvCell (fwd k c) c := by
  unfold owedRecv at h; rw [tallyAt_apply] at h
  by_contra hn; rw [if_neg (fun h' => hn h'.1)] at h; exact Nat.lt_irrefl 0 h
theorem owedBar_pos {c : Dev nD} {k : Fin 7} {g : GSem nD τ sig} {u : Unit} (h : 0 < owedBar c k g u) : g = barCell (fwd k c) := by
  unfold owedBar at h; rw [tallyAt_apply] at h
  by_contra hn; rw [if_neg (fun h' => hn h'.1)] at h; exact Nat.lt_irrefl 0 h

/-- What a device owes at any time is owed at a receive semaphore, or, before its signals, at a barrier semaphore. -/
theorem O₁_pos {c : Dev nD} {g : GSem nD τ sig} {u : Unit} (h : 0 < O₁ c g u) : g.1.2 = .tc ∧ lv g u = 2 := by
  obtain ⟨k, hk⟩ := sumFrom_pos h
  rw [owedRecv_pos hk]
  exact ⟨rfl, lv_recv _ _⟩
theorem O₀_pos {c : Dev nD} {g : GSem nD τ sig} {u : Unit} (h : 0 < O₀ c g u) : g.1.2 = .tc ∧ 1 ≤ lv g u := by
  unfold O₀ at h
  rw [Pi.add_apply, Finsupp.add_apply] at h
  rcases Nat.add_pos_iff_pos_or_pos.mp h with h | h
  · exact ⟨(O₁_pos h).1, by rw [(O₁_pos h).2]; decide⟩
  · obtain ⟨k, hk⟩ := sumFrom_pos h
    rw [owedBar_pos hk]
    exact ⟨rfl, le_rfl⟩

omit [FloatOps F] in
/-- A device may wait at a semaphore below everything it owes. -/
theorem mayWait_of (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

omit [FloatOps F] in
/-- At the barrier it owes copies only, above the barrier. -/
theorem mayWait_bar (c : Dev nD) : (levAts L lv : sProp 𝕄) ⊢ MayWait (c : Thread nD τ) (.reg barS) () (O₁ c) :=
  mayWait_of c _ _ fun g u hg => ⟨(O₁_pos hg).1, by rw [(O₁_pos hg).2]; exact Nat.lt_succ_self 1⟩

omit [FloatOps F] in
/-- At a semaphore of the pipeline it owes nothing at that level. -/
theorem mayWait_stage (c : Dev nD) (q : DmaSem sig) (hq : q.val < 11) (O : CellTallies nD τ sig Unit) (hO : O = O₀ c ∨ O = O₁ c ∨ O = 0) :
    (levAts L lv : sProp 𝕄) ⊢ MayWait (c : Thread nD τ) (.dma q) () O := by
  have h0 : lv ((c : Thread nD τ), .dma q) () = 0 := if_pos hq
  refine mayWait_of c _ _ fun g u hg => ?_
  rw [h0]
  rcases hO with rfl | rfl | rfl
  · exact ⟨(O₀_pos hg).1, (O₀_pos hg).2⟩
  · exact ⟨(O₁_pos hg).1, by rw [(O₁_pos hg).2]; decide⟩
  · exact absurd hg (Nat.lt_irrefl 0)

end Cert.KernelIdealProof

end
-- ==== Proof.KernelIdeal.Steps.lean ====
/-
The steps of the exchange

One rule per kind of step: a signal to another device's barrier semaphore, the wait at the barrier, the copy of a device's row to
another device, the wait for a row to arrive and the wait for a copy to have left. Each kind has a state indexed by the number of its
steps taken, and each rule takes the state from one number to the next.
-/
module

public import proofs.«01_k».proof.Proof.KernelIdeal.Schedule

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ) (K : Dev nD × Fin 17 → ℕ)

/-! ## The records every step reads -/

/-- Every semaphore's invariant and that it is at its first round at least. -/
def records : sProp 𝕄 :=
  iprop((bigSep Finset.univ fun ck => cellInv ER (ringRd m) (K ck) (kcell ck)) ∗ bigSep Finset.univ fun ck => reached ER (kcell ck) 0)

instance records_persistent : BI.Persistent (records m K) := by unfold records; infer_instance

theorem records_inv (ck : Dev nD × Fin 17) : records m K ⊢ cellInv ER (ringRd m) (K ck) (kcell ck) :=
  sep_elim_left.trans (bigSep_elim (Finset.mem_univ ck))
theorem records_reached (ck : Dev nD × Fin 17) : records m K ⊢ reached ER (kcell ck) 0 :=
  sep_elim_right.trans (bigSep_elim (Finset.mem_univ ck))

theorem inv_bar (c : Dev nD) : records m K ⊢ cellInv ER (ringRd m) (K (c, 0)) (barCell c) := records_inv m K (c, 0)
theorem inv_own0 (c : Dev nD) : records m K ⊢ cellInv ER (ringRd m) (K (c, 1)) (ownCell c 0) := records_inv m K (c, 1)
theorem inv_send (c : Dev nD) (k : Fin 7) : records m K ⊢ cellInv ER (ringRd m) (K (c, sendIx k)) (sendCell c k) := by
  rw [← kcell_send]; exact records_inv m K _
theorem inv_recv (c j : Dev nD) : records m K ⊢ cellInv ER (ringRd m) (K (c, recvIx j)) (recvCell c j) := by
  rw [← kcell_recv]; exact records_inv m K _
theorem reached_bar (c : Dev nD) : records m K ⊢ reached ER (barCell c) 0 := records_reached m K (c, 0)
theorem reached_send (c : Dev nD) (k : Fin 7) : records m K ⊢ reached ER (sendCell c k) 0 := by
  rw [← kcell_send]; exact records_reached m K _
theorem reached_recv (c j : Dev nD) : records m K ⊢ reached ER (recvCell c j) 0 := by
  rw [← kcell_recv]; exact records_reached m K _

/-- What a device owes, under whatever waits it has recorded. -/
def oweSome (c : Dev nD) (O : CellTallies nD τ sig Unit) : sProp 𝕄 := iprop(∃ W : Waits sig Unit, owes (c : Thread nD τ) O W)

variable {α : Type}

/-- The kernel calls no loop that needs a variant. -/
abbrev 𝒱₀ : Variants := Variants.none

omit [FloatOps F] in
/-- The first of the steps left, set apart; -/
theorem pop (Φ : Fin 7 → sProp 𝕄) (k : Fin 7) : bigSep (rangeSet 7 k.val 7) Φ = iprop(Φ k ∗ bigSep (rangeSet 7 (k.val + 1) 7) Φ) :=
  bigSep_rangeSet_head k.isLt k.isLt
omit [FloatOps F] in
/-- the last of the steps taken, set apart. -/
theorem push (Φ : Fin 7 → sProp 𝕄) (k : Fin 7) : bigSep (rangeSet 7 0 (k.val + 1)) Φ = iprop(Φ k ∗ bigSep (rangeSet 7 0 k.val) Φ) :=
  bigSep_rangeSet_last (Nat.succ_pos _) k.isLt

/-- A program of device `c` from here on ends in `Q`. -/
abbrev runs (c : Dev nD) (e : Prog (TpuEff nD τ sig (Elt F) Λ₀ .tc) α) (Q : α → sProp 𝕄) : sProp 𝕄 :=
  wp frame (wpE (defs₀ (F := F)) 𝒱₀ (c : Thread nD τ) none) Set.univ e Q

/-! ## The barrier -/

/-- Signal `k` of device `c` takes its permission and hands over the row of its own buffer that the receiver will fill. -/
def sigOne (c : Dev nD) (k : Fin 7) : sProp 𝕄 :=
  iprop(dutyTok ER (barCell (fwd k c)) 0 k ∗ ∃ f, row (F := F) c (fwd k c) fullShare f)
/-- Device `c` after `n` signals. -/
def sigSt (c : Dev nD) (n : ℕ) : sProp 𝕄 :=
  iprop(oweSome c (O₁ c + sumFrom (owedBar c) n) ∗ bigSep (rangeSet 7 n 7) (sigOne c))

theorem wp_sig (c : Dev nD) (k : Fin 7) {n : Dev nD} (hn : n = fwd k c) {v : ℤ} (hv : v = 1)
    {e : PUnit → Prog (TpuEff nD τ sig (Elt F) Λ₀ .tc) α} {Q : α → sProp 𝕄} :
    iprop(records m K ∗ sigSt (F := F) c k.val)
      ⊢ iprop((sigSt c (k.val + 1) -∗ runs c (e ⟨⟩) Q) -∗ runs c (.op (.semSignal (n, .tc) barS v) e) Q) := by
  subst hn hv
  unfold sigSt
  rw [pop (sigOne c)]
  conv_lhs => unfold oweSome sigOne
  iintro ⟨#HR, ⟨%W, HO⟩, ⟨HT, ⟨%f, Hrow⟩⟩, Hrest⟩ Hk
  iapply (Rounds.wp_signal 𝒱₀ ER (ringRd m) (c : Thread nD τ) none (dst := (fwd k c : Thread nD τ)) (κ := K (fwd k c, 0)) (r := 0) (d := k) (k' := 1)
      (by rw [duties_bar]; exact Finset.mem_univ _) (amount_bar m (fwd k c) 0 k) () (O₁ c + sumFrom (owedBar c) (k.val + 1))
      (O₀ := O₁ c + sumFrom (owedBar c) k.val) (by rw [sumFrom_step, add_assoc]; rfl)) $$ [HO HT Hrow]
  · isplitr; · iapply (inv_bar m K (fwd k c)); iexact HR
    isplitl [HO]; · iexact HO
    isplitl [HT]; · iexact HT
    isplitl [Hrow]
    · rw [payload_bar]; unfold barPay; rw [bwd_fwd]; iexists f; iexact Hrow
    · iapply (reached_bar m K (fwd k c)); iexact HR
  iintro HO
  iapply Hk
  isplitl [HO]
  · unfold oweSome; iexists W; iexact HO
  iexact Hrest

/-- The seven signals sent, a device waits for seven: every other device's row for it is then its own to fill. -/
theorem wp_barrier (c : Dev nD) {v : ℤ} (hv : v = 7)
    {e : PUnit → Prog (TpuEff nD τ sig (Elt F) Λ₀ .tc) α} {Q : α → sProp 𝕄} :
    iprop(records m K ∗ levAts L lv ∗ cred (tallyAt (barCell c) () 7) ∗ atPos ER (barCell c) 0 ∅ 0 ∗ oweSome (F := F) c (O₁ c))
      ⊢ iprop(((oweSome c (O₁ c) ∗ semVal (barCell c) 0 ∗ bigSep Finset.univ fun k : Fin 7 => iprop(∃ f, row (F := F) (fwd k c) c fullShare f)) -∗ runs c (e ⟨⟩) Q)
        -∗ runs c (.op (.semWait barS v) e) Q) := by
  subst hv
  conv_lhs => unfold oweSome
  iintro ⟨#HR, #Hlev, Hcr, Hat, ⟨%W, HO⟩⟩ Hk
  iapply (Rounds.wp_wait_rest_token 𝒱₀ ER (ringRd m) (c : Thread nD τ) none (κ := K (c, 0))
      (wpE_semWait_eq 𝒱₀ (c : Thread nD τ) none Set.univ) (Set.mem_univ _) () (O := O₁ c) (W := W) (R := 0) (m := 0) (T := ∅)
      (by rw [expect_bar])) $$ [Hcr HO Hat]
  · isplitr; · iapply (inv_bar m K c); iexact HR
    isplitl [Hcr]; · iexact Hcr
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (ringRd m) (Set.mem_univ (K (c, 0))) (fun h => h) (R := 0 + 1) (duties_later m (barCell c))) $$ [Hat] with Hz
  · isplitr; · iapply (inv_bar m K c); iexact HR
    iexact Hat
  iapply Hk
  isplitl [HO]
  · unfold oweSome; iexists _; iexact HO
  isplitl [Hz]; · iexact Hz
  have hrev : ∀ k : Fin 7, bwd k c = fwd (Fin.revPerm k) c := by revert c; decide
  have h : (bigSep Finset.univ fun k : Fin 7 => barPay (F := F) c k) = bigSep Finset.univ fun k : Fin 7 => iprop(∃ f, row (F := F) (fwd k c) c fullShare f) := by
    rw [bigSep_univ_equiv (Fin.revPerm (n := 7)) fun k => iprop(∃ f, row (F := F) (fwd k c) c fullShare f)]
    exact bigSep_congr fun k _ => by unfold barPay; rw [hrev k]
  iapply (Entails.of_eq h); iexact Hp

/-! ## The copies -/

/-- Copy `k` of device `c` takes the permissions at both its semaphores, the row it fills, and a share of its own row. -/
def sendOne (c : Dev nD) (k : Fin 7) : sProp 𝕄 :=
  iprop((dutyTok ER (sendCell c k) 0 0 ∗ dutyTok ER (recvCell (fwd k c) c) 0 0) ∗ (∃ f, row (F := F) (fwd k c) c fullShare f) ∗ row c c (sh k) (commAll m))
/-- Device `c` after `n` copies. -/
def sendSt (c : Dev nD) (n : ℕ) : sProp 𝕄 :=
  iprop(oweSome c (sumFrom (owedRecv c) n) ∗ bigSep (rangeSet 7 n 7) (sendOne m c) ∗ bigSep (rangeSet 7 0 n) fun k => cred (tallyAt (sendCell c k) () N))

/-- The copy of device `c`'s row to the device `k + 1` places ahead, at the two semaphores' schedules. -/
theorem wp_send_row (c : Dev nD) (k : Fin 7)
    {hsc : (rowM c : Memref sig (Dev.tc (fwd k c) : Thread nD τ).2.kind .vmem S1x1024 .f32).view.ref.isScScratch = false}
    {hsrc : (rowM c).view.WordExact} {hdst : (rowM c).view.WordExact}
    {hsem : DmaTarget.Typed .vmem (.dma (recvQ c)) (.remote (Dev.tc (fwd k c) : Thread nD τ) (rowM c : Memref sig .tc .vmem S1x1024 .f32) (.dma (sendQ k)) hsc)}
    {e : PUnit → Prog (TpuEff nD τ sig (Elt F) Λ₀ .tc) α} {Q : α → sProp 𝕄} (f : FVec F S8x1x1024 .f32) (W : Waits sig Unit) :
    iprop(cellInv ER (ringRd m) (K (c, sendIx k)) (sendCell c k) ∗ cellInv ER (ringRd m) (K (fwd k c, recvIx c)) (recvCell (fwd k c) c)
        ∗ row c c (sh k) (commAll m) ∗ row (fwd k c) c fullShare f
        ∗ owes (c : Thread nD τ) (sumFrom (owedRecv c) k.val) W
        ∗ dutyTok ER (sendCell c k) 0 0 ∗ reached ER (sendCell c k) 0
        ∗ dutyTok ER (recvCell (fwd k c) c) 0 0 ∗ reached ER (recvCell (fwd k c) c) 0)
      ⊢ iprop(((cred (tallyAt (sendCell c k) () N) ∗ owes (c : Thread nD τ) (sumFrom (owedRecv c) (k.val + 1)) W) -∗ runs c (e ⟨⟩) Q)
          -∗ runs c (.op (.enqueueDma (rowM c) (.remote (Dev.tc (fwd k c) : Thread nD τ) (rowM c) (.dma (sendQ k)) hsc) (.dma (recvQ c)) hsrc hdst hsem) e) Q) := by
  have h₁ : ((rowM c).view.loc (c : Thread nD τ) ↦[(rowM c).view.set]{sh k} commAll m : sProp 𝕄) ⊢ (ringRd (F := F) m).payload (sendCell c k) 0 0 := by
    rw [payload_send, row_view]; exact BI.Entails.refl _
  have h₂ : ((rowM c).view.loc (fwd k c : Thread nD τ) ↦[(rowM c).view.set]{fullShare}
        ((rowM c).view.write (Elt F) f ((rowM c).view.read (Elt F) (commAll m)) Finset.univ) : sProp 𝕄)
      ⊢ (ringRd (F := F) m).payload (recvCell (fwd k c) c) 0 0 := by
    rw [payload_recv, row_landed]; exact BI.Entails.refl _
  rw [← row_view, ← row_view]
  exact Rounds.wp_send_pointsTo 𝒱₀ ER (ringRd m) (c : Thread nD τ) none (c' := (fwd k c : Thread nD τ)) (src := rowM c) (dst := rowM c)
    (κ₁ := K (c, sendIx k)) (κ₂ := K (fwd k c, recvIx c))
    (r₁ := 0) (r₂ := 0) (d₁ := 0) (d₂ := 0) (q := sh k) (fs := commAll m) (fd := f)
    (by rw [duties_send]; exact Finset.mem_singleton_self _) (by rw [duties_recv_fwd]; exact Finset.mem_singleton_self _)
    () () N rfl (amount_dma m (c : Thread nD τ) (sendQ k) 0 0) (amount_dma m (fwd k c : Thread nD τ) (recvQ c) 0 0)
    (sumFrom (owedRecv c) (k.val + 1)) (sumFrom_step _ _) (W := W) h₁ h₂

theorem wp_copy (c : Dev nD) (k : Fin 7) {n : Dev nD} (hn : n = fwd k c)
    {src : Memref sig .tc .vmem S1x1024 .f32} (hs : src = rowM c) {dst : Memref sig (Dev.tc n : Thread nD τ).2.kind .vmem S1x1024 .f32} (hd : dst = rowM c)
    {qs qr : DmaSem sig} (hqs : qs = sendQ k) (hqr : qr = recvQ c)
    {hsc : dst.view.ref.isScScratch = false} {hsrc : src.view.WordExact} {hdst : dst.view.WordExact}
    {hsem : DmaTarget.Typed .vmem (.dma qr) (.remote (Dev.tc n : Thread nD τ) dst (.dma qs) hsc)}
    {e : PUnit → Prog (TpuEff nD τ sig (Elt F) Λ₀ .tc) α} {Q : α → sProp 𝕄} :
    iprop(records m K ∗ sendSt m c k.val)
      ⊢ iprop((sendSt m c (k.val + 1) -∗ runs c (e ⟨⟩) Q)
        -∗ runs c (.op (.enqueueDma src (.remote (Dev.tc n : Thread nD τ) dst (.dma qs) hsc) (.dma qr) hsrc hdst hsem) e) Q) := by
  subst hn hs hqs hqr
  obtain rfl := hd
  unfold sendSt
  rw [pop (sendOne m c), push]
  conv_lhs => unfold oweSome sendOne
  iintro ⟨#HR, ⟨%W, HO⟩, ⟨⟨⟨HTs, HTr⟩, ⟨%f, Hdst⟩, Hsrc⟩, Hrest⟩, Hcr⟩ Hk
  iapply (wp_send_row m K c k f W) $$ [HO HTs HTr Hsrc Hdst]
  · isplitr; · iapply (inv_send m K c k); iexact HR
    isplitr; · iapply (inv_recv m K (fwd k c) c); iexact HR
    isplitl [Hsrc]; · iexact Hsrc
    isplitl [Hdst]; · iexact Hdst
    isplitl [HO]; · iexact HO
    isplitl [HTs]; · iexact HTs
    isplitr; · iapply (reached_send m K c k); iexact HR
    isplitl [HTr]; · iexact HTr
    iapply (reached_recv m K (fwd k c) c); iexact HR
  iintro ⟨Hc, HO⟩
  iapply Hk
  isplitl [HO]
  · unfold oweSome; iexists W; iexact HO
  isplitl [Hrest]; · iexact Hrest
  isplitl [Hc]; · iexact Hc
  iexact Hcr

/-! ## The waits for the rows -/

/-- What the wait for row `k` needs, -/
def recvOne (c : Dev nD) (k : Fin 7) : sProp 𝕄 :=
  iprop(cred (tallyAt (recvCell c (bwd k c)) () N) ∗ atPos ER (recvCell c (bwd k c)) 0 ∅ 0)
/-- and what it leaves: the row with its device's totals, the semaphore at zero. -/
def recvDone (c : Dev nD) (k : Fin 7) : sProp 𝕄 :=
  iprop(row c (bwd k c) fullShare (commAll m) ∗ semVal (recvCell c (bwd k c)) 0)
/-- Device `c` after `n` rows have arrived. -/
def recvSt (c : Dev nD) (n : ℕ) : sProp 𝕄 :=
  iprop(oweSome c 0 ∗ bigSep (rangeSet 7 n 7) (recvOne (F := F) c) ∗ bigSep (rangeSet 7 0 n) (recvDone m c))

theorem wp_arrive (c : Dev nD) (k : Fin 7) {q : DmaSem sig} (hq : q = recvQ (bwd k c))
    {κ' : Kind} {src : Memref sig .tc .vmem S1x1024 .f32} {dst : Memref sig κ' .vmem S1x1024 .f32} (hc : dst.view.dmaCredit = N)
    {hsrc : src.view.WordExact} {hdst : dst.view.WordExact}
    {e : PUnit → Prog (TpuEff nD τ sig (Elt F) Λ₀ .tc) α} {Q : α → sProp 𝕄} :
    iprop(records m K ∗ recvSt m c k.val)
      ⊢ iprop((recvSt m c (k.val + 1) -∗ runs c (e ⟨⟩) Q) -∗ runs c (.op (.waitDma2 q src dst hsrc hdst) e) Q) := by
  subst hq
  unfold recvSt
  rw [pop (recvOne c), push]
  conv_lhs => unfold oweSome recvOne
  iintro ⟨#HR, ⟨%W, HO⟩, ⟨⟨Hcr, Hat⟩, Hrest⟩, Hdone⟩ Hk
  iapply (Rounds.wp_wait_rest_token 𝒱₀ ER (ringRd m) (c : Thread nD τ) none (κ := K (c, recvIx (bwd k c))) (sm := .dma (recvQ (bwd k c))) (k' := N)
      (fun Kt => by rw [wpE_waitDma2_eq, hc]) (Set.mem_univ _) () (O := 0) (W := W) (R := 0) (m := 0) (T := ∅)
      (by rw [Nat.zero_add, expect_recv])) $$ [Hcr HO Hat]
  · isplitr; · iapply (inv_recv m K c (bwd k c)); iexact HR
    isplitl [Hcr]; · iexact Hcr
    isplitl [HO]; · iexact HO
    isplitr; · rw [MayWait_zero]; iempintro
    iexact Hat
  iintro ⟨HO, Hat, -, Hpay⟩
  ihave Hp := (Entails.of_eq (rest_recv m c k)) $$ Hpay
  imod (Rounds.cell_close ER (ringRd m) (Set.mem_univ (K (c, recvIx (bwd k c)))) (fun h => h) (R := 0 + 1) (duties_later m (recvCell c (bwd k c)))) $$ [Hat] with Hz
  · isplitr; · iapply (inv_recv m K c (bwd k c)); iexact HR
    iexact Hat
  iapply Hk
  isplitl [HO]
  · unfold oweSome; iexists _; iexact HO
  isplitl [Hrest]; · iexact Hrest
  isplitl [Hp Hz]
  · unfold recvDone
    isplitl [Hp]; · unfold recvPay; iexact Hp
    iexact Hz
  iexact Hdone

/-! ## The waits for the copies to have left -/

def leaveOne (c : Dev nD) (k : Fin 7) : sProp 𝕄 :=
  iprop(cred (tallyAt (sendCell c k) () N) ∗ atPos ER (sendCell c k) 0 ∅ 0)
def leaveDone (c : Dev nD) (k : Fin 7) : sProp 𝕄 :=
  iprop(row c c (sh k) (commAll m) ∗ semVal (sendCell c k) 0)
/-- Device `c` after `n` of its copies have left. -/
def leaveSt (c : Dev nD) (n : ℕ) : sProp 𝕄 :=
  iprop(oweSome c 0 ∗ bigSep (rangeSet 7 n 7) (leaveOne (F := F) c) ∗ bigSep (rangeSet 7 0 n) (leaveDone m c))

theorem wp_leave (c : Dev nD) (k : Fin 7) {q : DmaSem sig} (hq : q = sendQ k)
    {κ' : Kind} {src : Memref sig .tc .vmem S1x1024 .f32} {dst : Memref sig κ' .vmem S1x1024 .f32} (hc : dst.view.dmaCredit = N)
    {hsrc : src.view.WordExact} {hdst : dst.view.WordExact}
    {e : PUnit → Prog (TpuEff nD τ sig (Elt F) Λ₀ .tc) α} {Q : α → sProp 𝕄} :
    iprop(records m K ∗ leaveSt m c k.val)
      ⊢ iprop((leaveSt m c (k.val + 1) -∗ runs c (e ⟨⟩) Q) -∗ runs c (.op (.waitDma2 q src dst hsrc hdst) e) Q) := by
  subst hq
  unfold leaveSt
  rw [pop (leaveOne c), push]
  conv_lhs => unfold oweSome leaveOne
  iintro ⟨#HR, ⟨%W, HO⟩, ⟨⟨Hcr, Hat⟩, Hrest⟩, Hdone⟩ Hk
  iapply (Rounds.wp_wait_rest_token 𝒱₀ ER (ringRd m) (c : Thread nD τ) none (κ := K (c, sendIx k)) (sm := .dma (sendQ k)) (k' := N)
      (fun Kt => by rw [wpE_waitDma2_eq, hc]) (Set.mem_univ _) () (O := 0) (W := W) (R := 0) (m := 0) (T := ∅)
      (by rw [Nat.zero_add, expect_send])) $$ [Hcr HO Hat]
  · isplitr; · iapply (inv_send m K c k); iexact HR
    isplitl [Hcr]; · iexact Hcr
    isplitl [HO]; · iexact HO
    isplitr; · rw [MayWait_zero]; iempintro
    iexact Hat
  iintro ⟨HO, Hat, -, Hpay⟩
  ihave Hp := (Entails.of_eq (rest_send m c k)) $$ Hpay
  imod (Rounds.cell_close ER (ringRd m) (Set.mem_univ (K (c, sendIx k))) (fun h => h) (R := 0 + 1) (duties_later m (sendCell c k))) $$ [Hat] with Hz
  · isplitr; · iapply (inv_send m K c k); iexact HR
    iexact Hat
  iapply Hk
  isplitl [HO]
  · unfold oweSome; iexists _; iexact HO
  isplitl [Hrest]; · iexact Hrest
  isplitl [Hp Hz]
  · unfold leaveDone
    isplitl [Hp]; · unfold sendPay; iexact Hp
    iexact Hz
  iexact Hdone

end Cert.KernelIdealProof

end
-- ==== Proof.KernelIdeal.Parts.lean ====
/-
The parts of the last grid point

The rules for the loads and stores of the three buffers, and one statement per part of the kernel body: from the state before it, the
state and the value after it.
-/
module
public import proofs.«01_k».proof.Proof.KernelIdeal.Steps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ) (K : Dev nD × Fin 17 → ℕ)
variable {α : Type}

/-! ## Chaining the rules -/

omit [FloatOps F] in
/-- A rule, then what follows from its result; the records stay. -/
theorem useR {R P P' W' W G : sProp 𝕄} [BI.Persistent R] (h : iprop(R ∗ P) ⊢ iprop((P' -∗ W') -∗ W)) (h' : iprop(R ∗ P') ⊢ iprop(G -∗ W')) :
    iprop(R ∗ P) ⊢ iprop(G -∗ W) := by
  iintro ⟨#HR, HP⟩ HG
  iapply h $$ [HP]
  · isplitr; · iexact HR
    iexact HP
  iintro HP
  iapply h' $$ [HP] [HG]
  · isplitr; · iexact HR
    iexact HP
  iexact HG

omit [FloatOps F] in
/-- The same for a rule that reads no records. -/
theorem use {P P' W' W G : sProp 𝕄} (h : P ⊢ iprop((P' -∗ W') -∗ W)) (h' : P' ⊢ iprop(G -∗ W')) : P ⊢ iprop(G -∗ W) := by
  iintro HP HG
  iapply h $$ [HP]
  · iexact HP
  iintro HP
  iapply h' $$ [HP] [HG]
  · iexact HP
  iexact HG

/-- The end of a part. -/
theorem doneR {R P : sProp 𝕄} {c : Dev nD} {v : α} {Q : α → sProp 𝕄} : iprop(R ∗ P) ⊢ iprop((P -∗ Q v) -∗ runs (F := F) c (.ret v) Q) := by
  iintro ⟨-, HP⟩ HG
  unfold runs; rw [wp_ret]
  imodintro
  iapply HG
  iexact HP
theorem doneAny {R P : sProp 𝕄} {c : Dev nD} {v : α} {Q : α → sProp 𝕄} : iprop(R ∗ P) ⊢ iprop((∀ v, P -∗ Q v) -∗ runs (F := F) c (.ret v) Q) := by
  iintro ⟨-, HP⟩ HG
  unfold runs; rw [wp_ret]
  imodintro
  iapply HG
  iexact HP
theorem done {P : sProp 𝕄} {c : Dev nD} {v : α} {Q : α → sProp 𝕄} : P ⊢ iprop((P -∗ Q v) -∗ runs (F := F) c (.ret v) Q) := by
  iintro HP HG
  unfold runs; rw [wp_ret]
  imodintro
  iapply HG
  iexact HP

/-! ## The semaphores at the spellings the program uses -/

theorem sendSem {off : Fin 1 → ℕ} {inb : ∀ a, off a + S1.size a ≤ S8.size a} {k : Fin 7} (h : off = ![k.val + 1]) :
    ((cc0_scratch2.slice (Rect.unit (s := S8) off S1.size inb)).squeeze S_ squeezes_S1_S_).sem = sendQ k := by
  subst h
  revert k
  decide

theorem recvSem {off : Fin 1 → ℕ} {inb : ∀ a, off a + S1.size a ≤ S8.size a} {j : Dev nD} (h : off = ![j.val]) :
    ((cc0_scratch3.slice (Rect.unit (s := S8) off S1.size inb)).squeeze S_ squeezes_S1_S_).sem = recvQ j := by
  subst h
  revert j
  decide

/-! ## The carry buffer -/

/-- The carry buffer of device `c` holds `v`. -/
def carB (c : Dev nD) (v : FVec F S1x1024 .f32) : sProp 𝕄 := ((c : Thread nD τ).loc cc0_scratch1) ↦{fullShare} v

theorem zero2 : (![0, 0] : Fin 2 → ℕ) = fun _ => 0 := funext fun a => by fin_cases a <;> rfl
theorem zero3 : (![0, 0, 0] : Fin 3 → ℕ) = fun _ => 0 := funext fun a => by fin_cases a <;> rfl

theorem wp_car_load (c : Dev nD) {v : FVec F S1x1024 .f32} {inb : ∀ a, (![0, 0] : Fin 2 → ℕ) a + S1x1024.size a ≤ S1x1024.size a} {hl}
    {e : FVec F S1x1024 .f32 → Prog (TpuEff nD τ sig (Elt F) Λ₀ .tc) α} {Q : α → sProp 𝕄} :
    carB c v ⊢ iprop((carB c v -∗ runs c (e v) Q) -∗ runs c (.op (.load carM (Rect.unit (s := S1x1024) ![0, 0] S1x1024.size inb).toLoadRect hl) e) Q) := by
  have h := wp_load (𝒱 := 𝒱₀) (defs := defs₀ (F := F)) (c := (c : Thread nD τ)) (bd := none) (Γ := .empty) (E := Set.univ) (m := carM) (r := (Rect.unit (s := S1x1024) ![0, 0] S1x1024.size inb).toLoadRect) (hl := hl)
    (k := e) (Q := Q) (S := Finset.univ) (q := fullShare) (f := v) (Finset.subset_univ _)
  have hv : carM.view.readAt (Elt F) (Rect.unit (s := S1x1024) ![0, 0] S1x1024.size inb).toLoadRect v = v := Memref.readAt_unit_zero (Elt F) cc0_scratch1 zero2 inb v
  rw [hv] at h
  exact h

theorem wp_car_store (c : Dev nD) {v w : FVec F S1x1024 .f32} {inb : ∀ a, (![0, 0] : Fin 2 → ℕ) a + S1x1024.size a ≤ S1x1024.size a} {hx hm}
    {e : PUnit → Prog (TpuEff nD τ sig (Elt F) Λ₀ .tc) α} {Q : α → sProp 𝕄} :
    carB c v ⊢ iprop((carB c w -∗ runs c (e ⟨⟩) Q) -∗ runs c (.op (.store carM (Rect.unit (s := S1x1024) ![0, 0] S1x1024.size inb) w Finset.univ hx hm) e) Q) := by
  have h := wp_store (𝒱 := 𝒱₀) (defs := defs₀ (F := F)) (c := (c : Thread nD τ)) (bd := none) (Γ := .empty) (E := Set.univ) (m := carM) (r := Rect.unit (s := S1x1024) ![0, 0] S1x1024.size inb) (hx := hx) (hm := hm)
    (k := e) (Q := Q) (S := Finset.univ) (f := v) (w := w) (Mk := Finset.univ) (Finset.subset_univ _)
  have hv : (carM.access (Rect.unit (s := S1x1024) ![0, 0] S1x1024.size inb) : View sig .tc _ _ _).write (Elt F) v w Finset.univ = w := Memref.write_access_unit_zero_univ (Elt F) cc0_scratch1 zero2 inb v w
  rw [hv] at h
  exact h

/-! ## The result's buffer -/

abbrev outM : Memref sig .tc .vmem S8192x1024 .bf16 := Memref.whole cc0_stg1_0

/-- The result's buffer of device `c` holds `X`. -/
def outB (c : Dev nD) (X : FVec F S8192x1024 .bf16) : sProp 𝕄 := ((c : Thread nD τ).loc cc0_stg1_0) ↦{fullShare} X

section Blocks
variable {b : ℕ} {off : Fin 2 → ℕ} {inb : ∀ a, off a + S256x1024.size a ≤ S8192x1024.size a} (ho : off = ![256 * b, 0])

include ho in
/-- Block `b` read from an array given by its blocks; -/
theorem read_block (f : ℕ → FVec F S256x1024 .bf16) : outM.view.readAt (Elt F) (blkRect off inb).toLoadRect (ofBlocks f) = f b :=
  funext fun i => ofBlocks_idx ho f i

include ho in
/-- block `b` written. -/
theorem write_block (f : ℕ → FVec F S256x1024 .bf16) (X : FVec F S8192x1024 .bf16) :
    (outM.access (blkRect off inb) : View sig .tc _ _ _).write (Elt F) X (f b) Finset.univ = fun i => if (i 0).val / 256 = b then ofBlocks f i else X i := by
  have hr : (outM.access (blkRect off inb) : View sig .tc _ _ _).read (Elt F) (ofBlocks f) = f b := read_block ho f
  rw [← hr, View.write_read_eq_piecewise]
  funext i
  have hs : (outM.access (blkRect off inb) : View sig .tc _ _ _).set = (blkRect off inb).set := View.set_slice_whole cc0_stg1_0 (blkRect off inb)
  have hi : i ∈ (outM.access (blkRect off inb) : View sig .tc _ _ _).set ↔ (i 0).val / 256 = b := by rw [hs]; exact mem_blkRect ho i
  by_cases h : (i 0).val / 256 = b
  · rw [if_pos h]; exact Finset.piecewise_eq_of_mem _ _ _ (hi.mpr h)
  · rw [if_neg h]; exact Finset.piecewise_eq_of_notMem _ _ _ (fun h' => h (hi.mp h'))

include ho in
theorem wp_out_load (c : Dev nD) {X : FVec F S8192x1024 .bf16} {hl}
    {e : FVec F S256x1024 .bf16 → Prog (TpuEff nD τ sig (Elt F) Λ₀ .tc) α} {Q : α → sProp 𝕄} :
    outB c X ⊢ iprop((outB c X -∗ runs c (e (outM.view.readAt (Elt F) (blkRect off inb).toLoadRect X)) Q) -∗ runs c (.op (.load outM (blkRect off inb).toLoadRect hl) e) Q) :=
  wp_load (𝒱 := 𝒱₀) (defs := defs₀ (F := F)) (c := (c : Thread nD τ)) (bd := none) (Γ := .empty) (E := Set.univ) (m := outM) (r := (blkRect off inb).toLoadRect) (hl := hl)
    (k := e) (Q := Q) (S := Finset.univ) (q := fullShare) (f := X) (Finset.subset_univ _)

include ho in
/-- A store of block `b`, after a load whose value is not used. -/
theorem wp_out_store (c : Dev nD) {f : ℕ → FVec F S256x1024 .bf16} {X : FVec F S8192x1024 .bf16} {w : FVec F S256x1024 .bf16} (hw : w = f b) {hl hx hm}
    {e : PUnit → Prog (TpuEff nD τ sig (Elt F) Λ₀ .tc) α} {Q : α → sProp 𝕄} :
    outB c X ⊢ iprop((outB c (fun i => if (i 0).val / 256 = b then ofBlocks f i else X i) -∗ runs c (e ⟨⟩) Q)
      -∗ runs c (.op (.load outM (blkRect off inb).toLoadRect hl) fun _ => .op (.store outM (blkRect off inb) w Finset.univ hx hm) e) Q) := by
  subst hw
  have h := wp_store (𝒱 := 𝒱₀) (defs := defs₀ (F := F)) (c := (c : Thread nD τ)) (bd := none) (Γ := .empty) (E := Set.univ) (m := outM) (r := blkRect off inb) (hx := hx) (hm := hm)
    (k := e) (Q := Q) (S := Finset.univ) (f := X) (w := f b) (Mk := Finset.univ) (Finset.subset_univ _)
  rw [write_block ho f X] at h
  exact use (wp_out_load ho c) h

include ho in
/-- The next block of the local cumulative sum is loaded; -/
theorem wp_peek (c : Dev nD) {hl} {e : FVec F S256x1024 .bf16 → Prog (TpuEff nD τ sig (Elt F) Λ₀ .tc) α} {Q : α → sProp 𝕄} :
    outB c (mix m c b) ⊢ iprop((outB c (mix m c b) -∗ runs c (e (blk m c b)) Q) -∗ runs c (.op (.load outM (blkRect off inb).toLoadRect hl) e) Q) := by
  have h : outM.view.readAt (Elt F) (blkRect off inb).toLoadRect (mix m c b) = blk m c b := (read_block ho _).trans (if_neg (lt_irrefl b))
  conv_rhs => rw [← h]
  exact wp_out_load ho c

include ho in
/-- it is stored with the prefix added. -/
theorem wp_fix (c : Dev nD) {w : FVec F S256x1024 .bf16} (hw : w = fin m c b) {hl hx hm}
    {e : PUnit → Prog (TpuEff nD τ sig (Elt F) Λ₀ .tc) α} {Q : α → sProp 𝕄} :
    outB c (mix m c b) ⊢ iprop((outB c (mix m c (b + 1)) -∗ runs c (e ⟨⟩) Q)
      -∗ runs c (.op (.load outM (blkRect off inb).toLoadRect hl) fun _ => .op (.store outM (blkRect off inb) w Finset.univ hx hm) e) Q) := by
  have h : mix m c (b + 1) = fun i => if (i 0).val / 256 = b then ofBlocks (fin m c) i else mix m c b i := by
    funext i
    by_cases hb : (i 0).val / 256 = b
    · rw [if_pos hb]
      exact ofBlocks_congr (by rw [if_pos (by omega)])
    · rw [if_neg hb]
      refine ofBlocks_congr ?_
      by_cases hl : (i 0).val / 256 < b
      · rw [if_pos hl, if_pos (by omega)]
      · rw [if_neg hl, if_neg (by omega)]
  rw [h]
  exact wp_out_store ho c hw

end Blocks

/-! ## The exchange buffer -/

/-- A load of row `j` whose value is not used; -/
theorem wp_row_load (c j : Dev nD) {off : Fin 3 → ℕ} {inb} (ho : off = ![j.val, 0, 0]) {f : FVec F S8x1x1024 .f32} {hl}
    {e : FVec F S1x1x1024 .f32 → Prog (TpuEff nD τ sig (Elt F) Λ₀ .tc) α} {Q : α → sProp 𝕄} :
    row c j fullShare f ⊢ iprop((row c j fullShare f -∗ runs c (e (commM.view.readAt (Elt F) (rowRect off inb).toLoadRect f)) Q)
      -∗ runs c (.op (.load commM (rowRect off inb).toLoadRect hl) e) Q) := by
  subst ho
  exact wp_load_rect (𝒱 := 𝒱₀) (defs := defs₀ (F := F)) (c := (c : Thread nD τ)) (bd := none) (Γ := .empty) (E := Set.univ) (m := commM) (r := rowRect ![j.val, 0, 0] inb) (hl := hl)
    (k := e) (Q := Q) (S := rowSet j) (q := fullShare) (f := f) (subset_of_eq (View.set_slice_whole cc0_scratch0 (rowRect ![j.val, 0, 0] inb)))

/-- the store of the device's total in its own row. -/
theorem wp_row_store (c : Dev nD) {off : Fin 3 → ℕ} {inb} (ho : off = ![c.val, 0, 0]) {f : FVec F S8x1x1024 .f32} {hx hm}
    {e : PUnit → Prog (TpuEff nD τ sig (Elt F) Λ₀ .tc) α} {Q : α → sProp 𝕄} :
    row c c fullShare f ⊢ iprop((row c c fullShare (commAll m) -∗ runs c (e ⟨⟩) Q)
      -∗ runs c (.op (.store commM (rowRect off inb) (k0_pay5 (total m c)) Finset.univ hx hm) e) Q) := by
  subst ho
  rw [← row_stored m c f]
  exact wp_store (𝒱 := 𝒱₀) (defs := defs₀ (F := F)) (c := (c : Thread nD τ)) (bd := none) (Γ := .empty) (E := Set.univ) (m := commM) (r := rowRect ![c.val, 0, 0] inb) (hx := hx) (hm := hm)
    (k := e) (Q := Q) (S := rowSet c) (f := f) (w := k0_pay5 (total m c)) (Mk := Finset.univ) (subset_of_eq (View.set_slice_whole cc0_scratch0 (rowRect ![c.val, 0, 0] inb)))

theorem wp_comm_load (c : Dev nD) {q} {f : FVec F S8x1x1024 .f32} {inb : ∀ a, (![0, 0, 0] : Fin 3 → ℕ) a + S8x1x1024.size a ≤ S8x1x1024.size a} {hl}
    {e : FVec F S8x1x1024 .f32 → Prog (TpuEff nD τ sig (Elt F) Λ₀ .tc) α} {Q : α → sProp 𝕄} :
    comm c q f ⊢ iprop((comm c q f -∗ runs c (e f) Q) -∗ runs c (.op (.load commM (Rect.unit (s := S8x1x1024) ![0, 0, 0] S8x1x1024.size inb).toLoadRect hl) e) Q) := by
  have h := wp_load (𝒱 := 𝒱₀) (defs := defs₀ (F := F)) (c := (c : Thread nD τ)) (bd := none) (Γ := .empty) (E := Set.univ) (m := commM) (r := (Rect.unit (s := S8x1x1024) ![0, 0, 0] S8x1x1024.size inb).toLoadRect) (hl := hl)
    (k := e) (Q := Q) (S := Finset.univ) (q := q) (f := f) (Finset.subset_univ _)
  have hv : commM.view.readAt (Elt F) (Rect.unit (s := S8x1x1024) ![0, 0, 0] S8x1x1024.size inb).toLoadRect f = f := Memref.readAt_unit_zero (Elt F) cc0_scratch0 zero3 inb f
  rw [hv] at h
  exact h

omit [FloatOps F] in
theorem swap3 (A B C : sProp 𝕄) : iprop(A ∗ B ∗ C) = iprop((A ∗ C) ∗ B) := by
  have h₁ : iprop(A ∗ B ∗ C) ⊢ iprop((A ∗ C) ∗ B) := by
    iintro ⟨H1, H2, H3⟩
    isplitl [H1 H3]
    · isplitl [H1]; · iexact H1
      iexact H3
    iexact H2
  have h₂ : iprop((A ∗ C) ∗ B) ⊢ iprop(A ∗ B ∗ C) := by
    iintro ⟨⟨H1, H3⟩, H2⟩
    isplitl [H1]; · iexact H1
    isplitl [H2]; · iexact H2
    iexact H3
  exact BI.equiv_iff.mp ⟨h₁, h₂⟩

omit [FloatOps F] in
/-- The share of its own row that a device keeps and the seven rows that have arrived are the whole buffer at that share and the other
    shares of those rows. -/
theorem rows_all (c : Dev nD) (f : FVec F S8x1x1024 .f32) :
    iprop(row c c shR f ∗ bigSep Finset.univ fun k : Fin 7 => row c (bwd k c) fullShare f)
      = iprop(comm c shR f ∗ bigSep Finset.univ fun k : Fin 7 => bigSep Finset.univ fun k' : Fin 7 => row c (bwd k c) (sh k') f) := by
  rw [comm_rows, bigSep_around c fun j => row c j shR f, bigSep_congr fun k _ => row_shares c (bwd k c) f, bigSep_sep']
  exact swap3 _ _ _

/-! ## The parts -/

/-- The first five signals. -/
theorem part1 (c : Dev nD) {i : grid0.Coords} {a1 : Memref sig .tc .vmem S256x1024 .bf16} {ha1 : a1.IsWhole} {a2 : Memref sig .tc .vmem S8192x1024 .bf16} {ha2 : a2.IsWhole} {ha3 : commM.IsWhole} {ha4 : carM.IsWhole} {w : BitVec 32} {h1 : k0_cond1 i = 1#1} {Q : Sems sig S_ → sProp 𝕄} :
    iprop(records m K ∗ sigSt (F := F) c 0) ⊢ iprop((sigSt (F := F) c 5 -∗ Q (SemArray.scalar (sig.barrier 0 rfl)))
      -∗ runs (F := F) c (k0_part1 i a1 ha1 a2 ha2 commM ha3 carM ha4 cc0_scratch2 cc0_scratch3 c w h1) Q) := by
  rw [k0_part1_eq_skeleton]
  unfold k0_part1_skel
  simp only [semSignalWord, semWaitWord, Prog.lift, Prog.bind_op, Prog.bind_ret, Prog.pure_eq_ret]
  refine useR (wp_sig m K c 0 (Fin.ext (k0_dev1_eq c)) (by rfl)) ?_
  refine useR (wp_sig m K c 1 (Fin.ext (k0_dev2_eq c)) (by rfl)) ?_
  refine useR (wp_sig m K c 2 (Fin.ext (k0_dev3_eq c)) (by rfl)) ?_
  refine useR (wp_sig m K c 3 (Fin.ext (k0_dev4_eq c)) (by rfl)) ?_
  refine useR (wp_sig m K c 4 (Fin.ext (k0_dev5_eq c)) (by rfl)) ?_
  exact doneR

/-- The state in which a device copies its row: its total is in the row, nothing has been copied. -/
theorem sendSt_start (c : Dev nD) :
    iprop(oweSome (F := F) c (O₁ c) ∗ row c c fullShare (commAll m)
        ∗ (bigSep Finset.univ fun k : Fin 7 => iprop(dutyTok ER (sendCell c k) 0 0 ∗ dutyTok ER (recvCell (fwd k c) c) 0 0))
        ∗ bigSep Finset.univ fun k : Fin 7 => iprop(∃ f, row (F := F) (fwd k c) c fullShare f))
      ⊢ iprop(row c c shR (commAll m) ∗ sendSt m c 0) := by
  have hs : bigSep Finset.univ (sendOne m c) = iprop((bigSep Finset.univ fun k : Fin 7 => iprop(dutyTok ER (sendCell c k) 0 0 ∗ dutyTok ER (recvCell (fwd k c) c) 0 0))
      ∗ (bigSep Finset.univ fun k : Fin 7 => iprop(∃ f, row (F := F) (fwd k c) c fullShare f)) ∗ bigSep Finset.univ fun k : Fin 7 => row c c (sh k) (commAll m)) :=
    (bigSep_sep' _ _ _).trans (congrArg (fun X => iprop(_ ∗ X)) (bigSep_sep' _ _ _))
  unfold sendSt
  rw [row_shares, rangeSet_univ, bigSep_rangeSet_empty (Nat.le_refl 0), hs]
  iintro ⟨HO, ⟨Hs, Hk⟩, Ht, Hr⟩
  isplitl [Hk]; · iexact Hk
  isplitl [HO]; · iexact HO
  isplitl
  · isplitl [Ht]; · iexact Ht
    isplitl [Hr]; · iexact Hr
    iexact Hs
  iempintro

/-- The total goes into the device's own row; the first two copies. -/
theorem part2 (c : Dev nD) {i : grid0.Coords} {a1 : Memref sig .tc .vmem S256x1024 .bf16} {ha1 : a1.IsWhole} {a2 : Memref sig .tc .vmem S8192x1024 .bf16} {ha2 : a2.IsWhole} {ha3 : commM.IsWhole} {ha4 : carM.IsWhole} {w : BitVec 32} {h2 : k0_cond2 i = 1#1} {Q : BitVec 32 → sProp 𝕄} :
    iprop(records m K ∗ carB c (total m c) ∗ (∃ f, row (F := F) c c fullShare f) ∗ oweSome (F := F) c (O₁ c)
        ∗ (bigSep Finset.univ fun k : Fin 7 => iprop(dutyTok ER (sendCell c k) 0 0 ∗ dutyTok ER (recvCell (fwd k c) c) 0 0))
        ∗ bigSep Finset.univ fun k : Fin 7 => iprop(∃ f, row (F := F) (fwd k c) c fullShare f))
      ⊢ iprop((∀ v, (carB c (total m c) ∗ row c c shR (commAll m) ∗ sendSt m c 2) -∗ Q v)
      -∗ runs (F := F) c (k0_part2 i a1 ha1 a2 ha2 commM ha3 carM ha4 cc0_scratch2 cc0_scratch3 c w h2) Q) := by
  rw [k0_part2_eq_skeleton]
  unfold k0_part2_skel
  simp only [semSignalWord, semWaitWord, Prog.lift, Prog.bind_op, Prog.bind_ret, Prog.pure_eq_ret]
  iintro ⟨#HR, Hcar, ⟨%f, Hrow⟩, HO, Ht, Hr⟩ Hk
  iapply (wp_car_load c) $$ [Hcar]
  · iexact Hcar
  iintro Hcar
  iapply (wp_row_load c c (k0_off2_eq c)) $$ [Hrow]
  · iexact Hrow
  iintro Hrow
  iapply (wp_row_store m c (k0_off2_eq c)) $$ [Hrow]
  · iexact Hrow
  iintro Hrow
  ihave ⟨Hkeep, HS⟩ := (sendSt_start m c) $$ [HO Hrow Ht Hr]
  · isplitl [HO]; · iexact HO
    isplitl [Hrow]; · iexact Hrow
    isplitl [Ht]; · iexact Ht
    iexact Hr
  iapply (useR (wp_copy m K c 0 (Fin.ext (k0_dev8_eq c)) (rowAt_eq (k0_off4_eq c)) (rowAt_eq (k0_off4_eq c)) (sendSem rfl) (recvSem (k0_off3_eq c)))
    (useR (wp_copy m K c 1 (Fin.ext (k0_dev9_eq c)) (rowAt_eq (k0_off4_eq c)) (rowAt_eq (k0_off4_eq c)) (sendSem rfl) (recvSem (k0_off3_eq c))) doneR)) $$ [HS]
  · isplitr; · iexact HR
    iexact HS
  iintro HS
  iapply Hk
  isplitl [Hcar]; · iexact Hcar
  isplitl [Hkeep]; · iexact Hkeep
  iexact HS

/-- The third and fourth copies. -/
theorem part3 (c : Dev nD) {i : grid0.Coords} {a1 : Memref sig .tc .vmem S256x1024 .bf16} {ha1 : a1.IsWhole} {a2 : Memref sig .tc .vmem S8192x1024 .bf16} {ha2 : a2.IsWhole} {ha3 : commM.IsWhole} {ha4 : carM.IsWhole} {w v : BitVec 32} {h2 : k0_cond2 i = 1#1} {Q : PUnit → sProp 𝕄} :
    iprop(records m K ∗ sendSt m c 2) ⊢ iprop((sendSt m c 4 -∗ Q ⟨⟩)
      -∗ runs (F := F) c (k0_part3 i a1 ha1 a2 ha2 commM ha3 carM ha4 cc0_scratch2 cc0_scratch3 c w h2 v) Q) := by
  rw [k0_part3_eq_skeleton]
  unfold k0_part3_skel
  simp only [semSignalWord, semWaitWord, Prog.lift, Prog.bind_op, Prog.bind_ret, Prog.pure_eq_ret]
  refine useR (wp_copy m K c 2 (Fin.ext (k0_dev10_eq c)) (rowAt_eq (k0_off4_eq c)) (rowAt_eq (k0_off4_eq c)) (sendSem rfl) (recvSem (k0_off3_eq c))) ?_
  refine useR (wp_copy m K c 3 (Fin.ext (k0_dev11_eq c)) (rowAt_eq (k0_off4_eq c)) (rowAt_eq (k0_off4_eq c)) (sendSem rfl) (recvSem (k0_off3_eq c))) ?_
  exact doneR

/-- The last three copies. -/
theorem part4 (c : Dev nD) {i : grid0.Coords} {a1 : Memref sig .tc .vmem S256x1024 .bf16} {ha1 : a1.IsWhole} {a2 : Memref sig .tc .vmem S8192x1024 .bf16} {ha2 : a2.IsWhole} {ha3 : commM.IsWhole} {ha4 : carM.IsWhole} {w : BitVec 32} {h2 : k0_cond2 i = 1#1} {Q : PUnit → sProp 𝕄} :
    iprop(records m K ∗ sendSt m c 4) ⊢ iprop((sendSt m c 7 -∗ Q ⟨⟩)
      -∗ runs (F := F) c (k0_part4 i a1 ha1 a2 ha2 commM ha3 carM ha4 cc0_scratch2 cc0_scratch3 c w h2) Q) := by
  rw [k0_part4_eq_skeleton]
  unfold k0_part4_skel
  simp only [semSignalWord, semWaitWord, Prog.lift, Prog.bind_op, Prog.bind_ret, Prog.pure_eq_ret]
  refine useR (wp_copy m K c 4 (Fin.ext (k0_dev12_eq c)) (rowAt_eq (k0_off4_eq c)) (rowAt_eq (k0_off4_eq c)) (sendSem rfl) (recvSem (k0_off3_eq c))) ?_
  refine useR (wp_copy m K c 5 (Fin.ext (k0_dev13_eq c)) (rowAt_eq (k0_off4_eq c)) (rowAt_eq (k0_off4_eq c)) (sendSem rfl) (recvSem (k0_off3_eq c))) ?_
  refine useR (wp_copy m K c 6 (Fin.ext (k0_dev14_eq c)) (rowAt_eq (k0_off4_eq c)) (rowAt_eq (k0_off4_eq c)) (sendSem rfl) (recvSem (k0_off3_eq c))) ?_
  exact doneR

/-- The waits for three rows; -/
theorem part5 (c : Dev nD) {i : grid0.Coords} {a1 : Memref sig .tc .vmem S256x1024 .bf16} {ha1 : a1.IsWhole} {a2 : Memref sig .tc .vmem S8192x1024 .bf16} {ha2 : a2.IsWhole} {ha3 : commM.IsWhole} {ha4 : carM.IsWhole} {w : BitVec 32} {h2 : k0_cond2 i = 1#1} {Q : BitVec 32 → sProp 𝕄} :
    iprop(records m K ∗ recvSt m c 0) ⊢ iprop((∀ v, recvSt m c 3 -∗ Q v)
      -∗ runs (F := F) c (k0_part5 i a1 ha1 a2 ha2 commM ha3 carM ha4 cc0_scratch2 cc0_scratch3 c w h2) Q) := by
  rw [k0_part5_eq_skeleton]
  unfold k0_part5_skel
  simp only [semSignalWord, semWaitWord, Prog.lift, Prog.bind_op, Prog.bind_ret, Prog.pure_eq_ret]
  refine useR (wp_arrive m K c 0 (recvSem (k0_off5_eq c 0)) (by rfl)) ?_
  refine useR (wp_arrive m K c 1 (recvSem (k0_off5_eq c 1)) (by rfl)) ?_
  refine useR (wp_arrive m K c 2 (recvSem (k0_off5_eq c 2)) (by rfl)) ?_
  exact doneAny

/-- for three more; -/
theorem part6 (c : Dev nD) {i : grid0.Coords} {a1 : Memref sig .tc .vmem S256x1024 .bf16} {ha1 : a1.IsWhole} {a2 : Memref sig .tc .vmem S8192x1024 .bf16} {ha2 : a2.IsWhole} {ha3 : commM.IsWhole} {ha4 : carM.IsWhole} {w v : BitVec 32} {h2 : k0_cond2 i = 1#1} {Q : (Σ' (_ : BitVec 32), BitVec 32) → sProp 𝕄} :
    iprop(records m K ∗ recvSt m c 3) ⊢ iprop((∀ v, recvSt m c 6 -∗ Q v)
      -∗ runs (F := F) c (k0_part6 i a1 ha1 a2 ha2 commM ha3 carM ha4 cc0_scratch2 cc0_scratch3 c w h2 v) Q) := by
  rw [k0_part6_eq_skeleton]
  unfold k0_part6_skel
  simp only [semSignalWord, semWaitWord, Prog.lift, Prog.bind_op, Prog.bind_ret, Prog.pure_eq_ret]
  refine useR (wp_arrive m K c 3 (recvSem (k0_off5_eq c 3)) (by rfl)) ?_
  refine useR (wp_arrive m K c 4 (recvSem (k0_off5_eq c 4)) (by rfl)) ?_
  refine useR (wp_arrive m K c 5 (recvSem (k0_off5_eq c 5)) (by rfl)) ?_
  exact doneAny

/-- Blocks 0 and 1 with the prefix added, block 2 loaded. -/
theorem fix01 (c : Dev nD) {hl0 hl0' hx0 hm0 hl1 hl1' hx1 hm1 hl2} {Q : (Σ' (_ : FVec F S1x1024 .f32), FVec F S256x1024 .bf16) → sProp 𝕄} :
    outB c (mix m c 0) ⊢ iprop((outB c (mix m c 2) -∗ Q ⟨pref m c, blk m c 2⟩)
      -∗ runs (F := F) c (.op (.load outM (blkRect ![0, 0] inb_S8192x1024_S256x1024_0_0).toLoadRect hl0) fun v206 =>
        .op (.load outM (blkRect ![0, 0] inb_S8192x1024_S256x1024_0_0).toLoadRect hl0') fun _ =>
        .op (.store outM (blkRect ![0, 0] inb_S8192x1024_S256x1024_0_0) (k0_pay7 (posWord c) (commAll m) v206) Finset.univ hx0 hm0) fun _ =>
        .op (.load outM (blkRect ![256, 0] inb_S8192x1024_S256x1024_256_0).toLoadRect hl1) fun v213 =>
        .op (.load outM (blkRect ![256, 0] inb_S8192x1024_S256x1024_256_0).toLoadRect hl1') fun _ =>
        .op (.store outM (blkRect ![256, 0] inb_S8192x1024_S256x1024_256_0) (k0_pay8 (posWord c) (commAll m) v213) Finset.univ hx1 hm1) fun _ =>
        .op (.load outM (blkRect ![512, 0] inb_S8192x1024_S256x1024_512_0).toLoadRect hl2) fun v220 =>
        .ret ⟨k0_pay6 (posWord c) (commAll m), v220⟩) Q) := by
  refine use (wp_peek m (b := 0) rfl c) ?_
  refine use (wp_fix m (b := 0) rfl c rfl) ?_
  refine use (wp_peek m (b := 1) rfl c) ?_
  refine use (wp_fix m (b := 1) rfl c rfl) ?_
  refine use (wp_peek m (b := 2) rfl c) ?_
  exact done

/-- The seventh row arrives; the totals are read and the prefix worked out; blocks 0 and 1 have it added. -/
theorem part7 (c : Dev nD) {i : grid0.Coords} {a1 : Memref sig .tc .vmem S256x1024 .bf16} {ha1 : a1.IsWhole} {ha2 : outM.IsWhole} {ha3 : commM.IsWhole} {ha4 : carM.IsWhole} {v v' : BitVec 32} {h2 : k0_cond2 i = 1#1} {Q : (Σ' (_ : FVec F S1x1024 .f32), FVec F S256x1024 .bf16) → sProp 𝕄} :
    iprop(records m K ∗ recvSt m c 6 ∗ row c c shR (commAll m) ∗ outB c (mix m c 0))
      ⊢ iprop(((recvSt m c 7 ∗ row c c shR (commAll m) ∗ outB c (mix m c 2)) -∗ Q ⟨pref m c, blk m c 2⟩)
      -∗ runs (F := F) c (k0_part7 i a1 ha1 outM ha2 commM ha3 carM ha4 cc0_scratch2 cc0_scratch3 c (posWord c) h2 v v') Q) := by
  rw [k0_part7_eq_skeleton]
  unfold k0_part7_skel
  simp only [semSignalWord, semWaitWord, Prog.lift, Prog.bind_op, Prog.bind_ret, Prog.pure_eq_ret]
  iintro ⟨#HR, HS, Hown, Hout⟩ Hk
  iapply (wp_arrive m K c 6 (recvSem (k0_off5_eq c 6)) (by rfl)) $$ [HS]
  · isplitr; · iexact HR
    iexact HS
  iintro HS
  have hd : recvSt m c 7 = iprop(oweSome c 0 ∗ bigSep (rangeSet 7 7 7) (recvOne (F := F) c)
      ∗ (bigSep Finset.univ fun k : Fin 7 => row c (bwd k c) fullShare (commAll m)) ∗ bigSep Finset.univ fun k : Fin 7 => semVal (recvCell c (bwd k c)) 0) := by
    have hs : bigSep Finset.univ (recvDone m c) = iprop((bigSep Finset.univ fun k : Fin 7 => row c (bwd k c) fullShare (commAll m))
        ∗ bigSep Finset.univ fun k : Fin 7 => semVal (recvCell c (bwd k c)) 0) := bigSep_sep' _ _ _
    unfold recvSt
    rw [rangeSet_univ, hs]
  ihave ⟨HO, He, Hrows, Hz⟩ := (show recvSt m c ((6 : Fin 7).val + 1) ⊢ _ from Entails.of_eq hd) $$ HS
  ihave ⟨Hcomm, Hsh⟩ := (Entails.of_eq (rows_all c (commAll m))) $$ [Hown Hrows]
  · isplitl [Hown]; · iexact Hown
    iexact Hrows
  iapply (wp_comm_load c) $$ [Hcomm]
  · iexact Hcomm
  iintro Hcomm
  ihave ⟨Hown, Hrows⟩ := (Entails.of_eq (rows_all c (commAll m)).symm) $$ [Hcomm Hsh]
  · isplitl [Hcomm]; · iexact Hcomm
    iexact Hsh
  iapply (fix01 m c) $$ [Hout]
  · iexact Hout
  iintro Hout
  iapply Hk
  isplitl [HO He Hrows Hz]
  · iapply (Entails.of_eq hd.symm)
    isplitl [HO]; · iexact HO
    isplitl [He]; · iexact He
    isplitl [Hrows]; · iexact Hrows
    iexact Hz
  isplitl [Hown]; · iexact Hown
  iexact Hout

/-- Blocks 2 to 6. -/
theorem part8 (c : Dev nD) {i : grid0.Coords} {a1 : Memref sig .tc .vmem S256x1024 .bf16} {ha1 : a1.IsWhole} {ha2 : outM.IsWhole} {ha3 : commM.IsWhole} {ha4 : carM.IsWhole} {Q : FVec F S256x1024 .bf16 → sProp 𝕄} :
    outB c (mix m c 2) ⊢ iprop((outB c (mix m c 7) -∗ Q (blk m c 7))
      -∗ runs (F := F) c (k0_part8 i a1 ha1 outM ha2 commM ha3 carM ha4 cc0_scratch2 cc0_scratch3 (pref m c) (blk m c 2)) Q) := by
  rw [k0_part8_eq_skeleton]
  unfold k0_part8_skel
  simp only [semSignalWord, semWaitWord, Prog.lift, Prog.bind_op, Prog.bind_ret, Prog.pure_eq_ret]
  refine use (wp_fix m (b := 2) rfl c rfl) ?_
  refine use (wp_peek m (b := 3) rfl c) ?_
  refine use (wp_fix m (b := 3) rfl c rfl) ?_
  refine use (wp_peek m (b := 4) rfl c) ?_
  refine use (wp_fix m (b := 4) rfl c rfl) ?_
  refine use (wp_peek m (b := 5) rfl c) ?_
  refine use (wp_fix m (b := 5) rfl c rfl) ?_
  refine use (wp_peek m (b := 6) rfl c) ?_
  refine use (wp_fix m (b := 6) rfl c rfl) ?_
  refine use (wp_peek m (b := 7) rfl c) ?_
  exact done

/-- Blocks 7 to 11. -/
theorem part9 (c : Dev nD) {i : grid0.Coords} {a1 : Memref sig .tc .vmem S256x1024 .bf16} {ha1 : a1.IsWhole} {ha2 : outM.IsWhole} {ha3 : commM.IsWhole} {ha4 : carM.IsWhole} {Q : FVec F S256x1024 .bf16 → sProp 𝕄} :
    outB c (mix m c 7) ⊢ iprop((outB c (mix m c 12) -∗ Q (blk m c 12))
      -∗ runs (F := F) c (k0_part9 i a1 ha1 outM ha2 commM ha3 carM ha4 cc0_scratch2 cc0_scratch3 (pref m c) (blk m c 7)) Q) := by
  rw [k0_part9_eq_skeleton]
  unfold k0_part9_skel
  simp only [semSignalWord, semWaitWord, Prog.lift, Prog.bind_op, Prog.bind_ret, Prog.pure_eq_ret]
  refine use (wp_fix m (b := 7) rfl c rfl) ?_
  refine use (wp_peek m (b := 8) rfl c) ?_
  refine use (wp_fix m (b := 8) rfl c rfl) ?_
  refine use (wp_peek m (b := 9) rfl c) ?_
  refine use (wp_fix m (b := 9) rfl c rfl) ?_
  refine use (wp_peek m (b := 10) rfl c) ?_
  refine use (wp_fix m (b := 10) rfl c rfl) ?_
  refine use (wp_peek m (b := 11) rfl c) ?_
  refine use (wp_fix m (b := 11) rfl c rfl) ?_
  refine use (wp_peek m (b := 12) rfl c) ?_
  exact done

/-- Blocks 12 to 16. -/
theorem part10 (c : Dev nD) {i : grid0.Coords} {a1 : Memref sig .tc .vmem S256x1024 .bf16} {ha1 : a1.IsWhole} {ha2 : outM.IsWhole} {ha3 : commM.IsWhole} {ha4 : carM.IsWhole} {Q : FVec F S256x1024 .bf16 → sProp 𝕄} :
    outB c (mix m c 12) ⊢ iprop((outB c (mix m c 17) -∗ Q (blk m c 17))
      -∗ runs (F := F) c (k0_part10 i a1 ha1 outM ha2 commM ha3 carM ha4 cc0_scratch2 cc0_scratch3 (pref m c) (blk m c 12)) Q) := by
  rw [k0_part10_eq_skeleton]
  unfold k0_part10_skel
  simp only [semSignalWord, semWaitWord, Prog.lift, Prog.bind_op, Prog.bind_ret, Prog.pure_eq_ret]
  refine use (wp_fix m (b := 12) rfl c rfl) ?_
  refine use (wp_peek m (b := 13) rfl c) ?_
  refine use (wp_fix m (b := 13) rfl c rfl) ?_
  refine use (wp_peek m (b := 14) rfl c) ?_
  refine use (wp_fix m (b := 14) rfl c rfl) ?_
  refine use (wp_peek m (b := 15) rfl c) ?_
  refine use (wp_fix m (b := 15) rfl c rfl) ?_
  refine use (wp_peek m (b := 16) rfl c) ?_
  refine use (wp_fix m (b := 16) rfl c rfl) ?_
  refine use (wp_peek m (b := 17) rfl c) ?_
  exact done

/-- Blocks 17 to 21. -/
theorem part11 (c : Dev nD) {i : grid0.Coords} {a1 : Memref sig .tc .vmem S256x1024 .bf16} {ha1 : a1.IsWhole} {ha2 : outM.IsWhole} {ha3 : commM.IsWhole} {ha4 : carM.IsWhole} {Q : FVec F S256x1024 .bf16 → sProp 𝕄} :
    outB c (mix m c 17) ⊢ iprop((outB c (mix m c 22) -∗ Q (blk m c 22))
      -∗ runs (F := F) c (k0_part11 i a1 ha1 outM ha2 commM ha3 carM ha4 cc0_scratch2 cc0_scratch3 (pref m c) (blk m c 17)) Q) := by
  rw [k0_part11_eq_skeleton]
  unfold k0_part11_skel
  simp only [semSignalWord, semWaitWord, Prog.lift, Prog.bind_op, Prog.bind_ret, Prog.pure_eq_ret]
  refine use (wp_fix m (b := 17) rfl c rfl) ?_
  refine use (wp_peek m (b := 18) rfl c) ?_
  refine use (wp_fix m (b := 18) rfl c rfl) ?_
  refine use (wp_peek m (b := 19) rfl c) ?_
  refine use (wp_fix m (b := 19) rfl c rfl) ?_
  refine use (wp_peek m (b := 20) rfl c) ?_
  refine use (wp_fix m (b := 20) rfl c rfl) ?_
  refine use (wp_peek m (b := 21) rfl c) ?_
  refine use (wp_fix m (b := 21) rfl c rfl) ?_
  refine use (wp_peek m (b := 22) rfl c) ?_
  exact done

/-- Blocks 22 to 26. -/
theorem part12 (c : Dev nD) {i : grid0.Coords} {a1 : Memref sig .tc .vmem S256x1024 .bf16} {ha1 : a1.IsWhole} {ha2 : outM.IsWhole} {ha3 : commM.IsWhole} {ha4 : carM.IsWhole} {Q : FVec F S256x1024 .bf16 → sProp 𝕄} :
    outB c (mix m c 22) ⊢ iprop((outB c (mix m c 27) -∗ Q (blk m c 27))
      -∗ runs (F := F) c (k0_part12 i a1 ha1 outM ha2 commM ha3 carM ha4 cc0_scratch2 cc0_scratch3 (pref m c) (blk m c 22)) Q) := by
  rw [k0_part12_eq_skeleton]
  unfold k0_part12_skel
  simp only [semSignalWord, semWaitWord, Prog.lift, Prog.bind_op, Prog.bind_ret, Prog.pure_eq_ret]
  refine use (wp_fix m (b := 22) rfl c rfl) ?_
  refine use (wp_peek m (b := 23) rfl c) ?_
  refine use (wp_fix m (b := 23) rfl c rfl) ?_
  refine use (wp_peek m (b := 24) rfl c) ?_
  refine use (wp_fix m (b := 24) rfl c rfl) ?_
  refine use (wp_peek m (b := 25) rfl c) ?_
  refine use (wp_fix m (b := 25) rfl c rfl) ?_
  refine use (wp_peek m (b := 26) rfl c) ?_
  refine use (wp_fix m (b := 26) rfl c rfl) ?_
  refine use (wp_peek m (b := 27) rfl c) ?_
  exact done

/-- Blocks 27 to 31. -/
theorem part13 (c : Dev nD) {i : grid0.Coords} {a1 : Memref sig .tc .vmem S256x1024 .bf16} {ha1 : a1.IsWhole} {ha2 : outM.IsWhole} {ha3 : commM.IsWhole} {ha4 : carM.IsWhole} {Q : PUnit → sProp 𝕄} :
    outB c (mix m c 27) ⊢ iprop((outB c (mix m c 32) -∗ Q ⟨⟩)
      -∗ runs (F := F) c (k0_part13 i a1 ha1 outM ha2 commM ha3 carM ha4 cc0_scratch2 cc0_scratch3 (pref m c) (blk m c 27)) Q) := by
  rw [k0_part13_eq_skeleton]
  unfold k0_part13_skel
  simp only [semSignalWord, semWaitWord, Prog.lift, Prog.bind_op, Prog.bind_ret, Prog.pure_eq_ret]
  refine use (wp_fix m (b := 27) rfl c rfl) ?_
  refine use (wp_peek m (b := 28) rfl c) ?_
  refine use (wp_fix m (b := 28) rfl c rfl) ?_
  refine use (wp_peek m (b := 29) rfl c) ?_
  refine use (wp_fix m (b := 29) rfl c rfl) ?_
  refine use (wp_peek m (b := 30) rfl c) ?_
  refine use (wp_fix m (b := 30) rfl c rfl) ?_
  refine use (wp_peek m (b := 31) rfl c) ?_
  refine use (wp_fix m (b := 31) rfl c rfl) ?_
  exact done

/-- The waits for four of the copies to have left. -/
theorem part14 (c : Dev nD) {i : grid0.Coords} {a1 : Memref sig .tc .vmem S256x1024 .bf16} {ha1 : a1.IsWhole} {a2 : Memref sig .tc .vmem S8192x1024 .bf16} {ha2 : a2.IsWhole} {ha3 : commM.IsWhole} {ha4 : carM.IsWhole} {h2 : k0_cond2 i = 1#1} {Q : PUnit → sProp 𝕄} :
    iprop(records m K ∗ leaveSt m c 0) ⊢ iprop((leaveSt m c 4 -∗ Q ⟨⟩)
      -∗ runs (F := F) c (k0_part14 i a1 ha1 a2 ha2 commM ha3 carM ha4 cc0_scratch2 cc0_scratch3 c h2) Q) := by
  rw [k0_part14_eq_skeleton]
  unfold k0_part14_skel
  simp only [semSignalWord, semWaitWord, Prog.lift, Prog.bind_op, Prog.bind_ret, Prog.pure_eq_ret]
  refine useR (wp_leave m K c 0 (sendSem rfl) (by rfl)) ?_
  refine useR (wp_leave m K c 1 (sendSem rfl) (by rfl)) ?_
  refine useR (wp_leave m K c 2 (sendSem rfl) (by rfl)) ?_
  refine useR (wp_leave m K c 3 (sendSem rfl) (by rfl)) ?_
  exact doneR

end Cert.KernelIdealProof

end
-- ==== Proof.KernelIdeal.Point.lean ====
/-
The grid points

What the kernel body does at the first grid point, at the points between, and at the last: the buffers and the device's part of the
exchange before it and after it.
-/
module
public import proofs.«01_k».proof.Proof.KernelIdeal.Parts
public import Idealize.ShloMosaic.Lib.VecWindow

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ) (K : Dev nD × Fin 17 → ℕ)
variable {α β : Type}

/-- A part of the body, then the rest of it. -/
theorem bindG {P G : sProp 𝕄} {c : Dev nD} {p : Prog (TpuEff nD τ sig (Elt F) Λ₀ .tc) α} {k : α → Prog (TpuEff nD τ sig (Elt F) Λ₀ .tc) β} {Q : β → sProp 𝕄}
    (h : P ⊢ iprop(G -∗ runs c p (fun a => runs c (k a) Q))) : P ⊢ iprop(G -∗ runs c (p >>= k) Q) := by
  unfold runs at h ⊢
  rw [wp_bind]
  exact h

/-! ## The blocks done so far -/

/-- The first `n` blocks of `X` are those of the local cumulative sum. -/
def UpTo (c : Dev nD) (n : ℕ) (X : FVec F S8192x1024 .bf16) : Prop := ∀ i, (i 0).val / 256 < n → X i = outPre m c i

theorem UpTo.zero (c : Dev nD) (X) : UpTo m c 0 X := fun i h => absurd h (Nat.not_lt_zero _)

/-- `X` with block `b` of the local cumulative sum put in. -/
def putBlk (c : Dev nD) (b : ℕ) (X : FVec F S8192x1024 .bf16) : FVec F S8192x1024 .bf16 :=
  fun i => if (i 0).val / 256 = b then outPre m c i else X i

theorem UpTo.put {c : Dev nD} {b : ℕ} {X} (h : UpTo m c b X) : UpTo m c (b + 1) (putBlk m c b X) := by
  intro i hi
  unfold putBlk
  by_cases hb : (i 0).val / 256 = b
  · rw [if_pos hb]
  · rw [if_neg hb]; exact h i (by omega)

theorem UpTo.all {c : Dev nD} {X} (h : UpTo m c 32 X) : X = mix m c 0 := by
  rw [mix_zero]
  funext i
  have hi : (i 0).val < 8192 := (i 0).isLt
  exact h i (by omega)

/-! ## The block of a grid point -/

/-- The whole of a staged block is loaded. -/
theorem wp_in_load (c : Dev nD) {a1 : Memref sig .tc .vmem S256x1024 .bf16} {X : FVec F S256x1024 .bf16}
    {inb : ∀ a, (![0, 0] : Fin 2 → ℕ) a + S256x1024.size a ≤ S256x1024.size a} {hl}
    {e : FVec F S256x1024 .bf16 → Prog (TpuEff nD τ sig (Elt F) Λ₀ .tc) α} {Q : α → sProp 𝕄} :
    owns (c : Thread nD τ) a1 fullShare X ⊢ iprop((owns (c : Thread nD τ) a1 fullShare X -∗ runs c (e X) Q)
      -∗ runs c (.op (.load a1 (Rect.unit (s := S256x1024) ![0, 0] S256x1024.size inb).toLoadRect hl) e) Q) := by
  conv_lhs => unfold owns
  iintro ⟨%f, %hf, Hp⟩ Hk
  subst hf
  have h := wp_load (𝒱 := 𝒱₀) (defs := defs₀ (F := F)) (c := (c : Thread nD τ)) (bd := none) (Γ := .empty) (E := Set.univ) (m := a1) (r := (Rect.unit (s := S256x1024) ![0, 0] S256x1024.size inb).toLoadRect) (hl := hl)
    (k := e) (Q := Q) (S := a1.view.set) (q := fullShare) (f := f) (View.setOn_subset_set _ _)
  have hv : a1.view.readAt (Elt F) (Rect.unit (s := S256x1024) ![0, 0] S256x1024.size inb).toLoadRect f = a1.view.read (Elt F) f := View.readAt_full a1.view f inb
  rw [hv] at h
  iapply h $$ [Hp]
  · iexact Hp
  iintro Hp
  iapply Hk
  unfold owns
  iexists f
  isplitr; · ipureintro; rfl
  iexact Hp

/-- Block `b` at a grid point: the local cumulative sum of the block is stored, the carry moves on. -/
theorem wp_block (c : Dev nD) {b : ℕ} {off : Fin 2 → ℕ} {inb : ∀ a, off a + S256x1024.size a ≤ S8192x1024.size a} (ho : off = ![256 * b, 0])
    {a1 : Memref sig .tc .vmem S256x1024 .bf16} {X : FVec F S8192x1024 .bf16} {inb1 inb2 inb3 inb4 hl1 hl2 hl3 hl4 hx3 hm3 hx4 hm4}
    {e : PUnit → Prog (TpuEff nD τ sig (Elt F) Λ₀ .tc) α} {Q : α → sProp 𝕄} :
    iprop(carB c (carry m c b) ∗ owns (c : Thread nD τ) a1 fullShare (xblk m c b) ∗ outB c X)
      ⊢ iprop(((carB c (carry m c (b + 1)) ∗ owns (c : Thread nD τ) a1 fullShare (xblk m c b) ∗ outB c (putBlk m c b X)) -∗ runs c (e ⟨⟩) Q)
      -∗ runs c (.op (.load a1 (Rect.unit (s := S256x1024) ![0, 0] S256x1024.size inb1).toLoadRect hl1) fun v12 =>
        .op (.load carM (Rect.unit (s := S1x1024) ![0, 0] S1x1024.size inb2).toLoadRect hl2) fun v15 =>
        .op (.load outM (blkRect off inb).toLoadRect hl3) fun _ =>
        .op (.store outM (blkRect off inb) (k0_pay3 v12 v15) Finset.univ hx3 hm3) fun _ =>
        .op (.load carM (Rect.unit (s := S1x1024) ![0, 0] S1x1024.size inb3).toLoadRect hl4) fun _ =>
        .op (.store carM (Rect.unit (s := S1x1024) ![0, 0] S1x1024.size inb4) (k0_pay4 v12 v15) Finset.univ hx4 hm4) e) Q) := by
  iintro ⟨Hcar, Hin, Hout⟩ Hk
  iapply (wp_in_load c) $$ [Hin]
  · iexact Hin
  iintro Hin
  iapply (wp_car_load c) $$ [Hcar]
  · iexact Hcar
  iintro Hcar
  iapply (wp_out_store (f := blk m c) ho c rfl) $$ [Hout]
  · iexact Hout
  iintro Hout
  iapply (wp_car_load c) $$ [Hcar]
  · iexact Hcar
  iintro Hcar
  iapply (wp_car_store c) $$ [Hcar]
  · iexact Hcar
  iintro Hcar
  iapply Hk
  isplitl [Hcar]; · iexact Hcar
  isplitl [Hin]; · iexact Hin
  iexact Hout

/-! ## The three kinds of grid point -/

/-- A point that is neither first nor last. -/
theorem point_mid (c : Dev nD) {i : grid0.Coords} {b : ℕ} (hb : (i 0).val = b) (h1 : ¬ k0_cond1 i = 1#1) (h2 : ¬ k0_cond2 i = 1#1) {a1 : Memref sig .tc .vmem S256x1024 .bf16} {ha1 : a1.IsWhole} {ha2 : outM.IsWhole} {ha3 : commM.IsWhole} {ha4 : carM.IsWhole}
    {X : FVec F S8192x1024 .bf16} {Q : PUnit → sProp 𝕄} :
    iprop(carB c (carry m c b) ∗ owns (c : Thread nD τ) a1 fullShare (xblk m c b) ∗ outB c X)
      ⊢ iprop(((carB c (carry m c (b + 1)) ∗ owns (c : Thread nD τ) a1 fullShare (xblk m c b) ∗ outB c (putBlk m c b X)) -∗ Q ⟨⟩)
      -∗ runs (F := F) c (cc0_body i a1 ha1 outM ha2 commM ha3 carM ha4 cc0_scratch2 cc0_scratch3) Q) := by
  rw [cc0_body_eq_skeleton]
  unfold cc0_body_skel
  simp only [Prog.lift, Prog.bind_op, Prog.bind_ret, Prog.pure_eq_ret, dif_neg h1, dif_neg h2, wp_deviceId]
  exact use (wp_block m c ((k0_off1_eq i).trans (by rw [hb]))) done

/-- The first point: the seven signals and the wait for seven, then block 0. -/
theorem point_first (c : Dev nD) {i : grid0.Coords} (hb : (i 0).val = 0) (h1 : k0_cond1 i = 1#1) (h2 : ¬ k0_cond2 i = 1#1) {a1 : Memref sig .tc .vmem S256x1024 .bf16} {ha1 : a1.IsWhole} {ha2 : outM.IsWhole} {ha3 : commM.IsWhole} {ha4 : carM.IsWhole}
    {X : FVec F S8192x1024 .bf16} {Q : PUnit → sProp 𝕄} :
    iprop(records m K ∗ levAts L lv ∗ sigSt (F := F) c 0 ∗ cred (tallyAt (barCell c) () 7) ∗ atPos ER (barCell c) 0 ∅ 0 ∗ (∃ f, carB (F := F) c f)
        ∗ owns (c : Thread nD τ) a1 fullShare (xblk m c 0) ∗ outB c X)
      ⊢ iprop(((oweSome (F := F) c (O₁ c) ∗ semVal (barCell c) 0 ∗ (bigSep Finset.univ fun k : Fin 7 => iprop(∃ f, row (F := F) (fwd k c) c fullShare f))
          ∗ carB c (carry m c 1) ∗ owns (c : Thread nD τ) a1 fullShare (xblk m c 0) ∗ outB c (putBlk m c 0 X)) -∗ Q ⟨⟩)
      -∗ runs (F := F) c (cc0_body i a1 ha1 outM ha2 commM ha3 carM ha4 cc0_scratch2 cc0_scratch3) Q) := by
  rw [cc0_body_eq_skeleton]
  unfold cc0_body_skel
  simp only [semSignalWord, semWaitWord, Prog.lift, Prog.bind_op, Prog.bind_ret, Prog.pure_eq_ret, dif_pos h1, dif_neg h2, wp_deviceId, bind_assoc]
  iintro ⟨#HR, #Hlev, HS, Hcr, Hat, ⟨%f, Hcar⟩, Hin, Hout⟩ Hk
  iapply (bindG (part1 m K c)) $$ [HS]
  · isplitr; · iexact HR
    iexact HS
  iintro HS
  iapply (useR (wp_sig m K c 5 (Fin.ext (k0_dev6_eq c)) (by rfl)) (wp_sig m K c 6 (Fin.ext (k0_dev7_eq c)) (by rfl))) $$ [HS]
  · isplitr; · iexact HR
    iexact HS
  iintro HS
  have hd : sigSt (F := F) c ((6 : Fin 7).val + 1) ⊢ oweSome (F := F) c (O₁ c) := by
    show sigSt (F := F) c 7 ⊢ _
    unfold sigSt
    rw [sumFrom_end, add_zero]
    exact sep_elim_left
  ihave HO := hd $$ HS
  iapply (wp_barrier m K c (by rfl)) $$ [HO Hcr Hat]
  · isplitr; · iexact HR
    isplitr; · iexact Hlev
    isplitl [Hcr]; · iexact Hcr
    isplitl [Hat]; · iexact Hat
    iexact HO
  iintro ⟨HO, Hz, Hrows⟩
  iapply (use (wp_car_load c) (wp_car_store c)) $$ [Hcar]
  · iexact Hcar
  iintro Hcar
  iapply (use (wp_block m c ((k0_off1_eq i).trans (by rw [hb]))) done) $$ [Hcar Hin Hout]
  · isplitl [Hcar]; · iexact Hcar
    isplitl [Hin]; · iexact Hin
    iexact Hout
  iintro ⟨Hcar, Hin, Hout⟩
  iapply Hk
  isplitl [HO]; · iexact HO
  isplitl [Hz]; · iexact Hz
  isplitl [Hrows]; · iexact Hrows
  isplitl [Hcar]; · iexact Hcar
  isplitl [Hin]; · iexact Hin
  iexact Hout

/-- All the copies made: what a device has owed is paid, and it can wait for those it will receive. -/
theorem sendSt_end (c : Dev nD) : sendSt m c 7 ⊢ iprop(oweSome (F := F) c 0 ∗ bigSep Finset.univ fun k : Fin 7 => cred (tallyAt (sendCell c k) () N)) := by
  unfold sendSt
  rw [sumFrom_end, rangeSet_univ]
  exact sep_mono_right sep_elim_right

/-- All the rows arrived. -/
theorem recvSt_end (c : Dev nD) : recvSt m c 7 ⊢ iprop(oweSome (F := F) c 0 ∗ bigSep Finset.univ (recvDone m c)) := by
  unfold recvSt
  rw [rangeSet_univ]
  exact sep_mono_right sep_elim_right

/-- All the copies left. -/
theorem leaveSt_end (c : Dev nD) : leaveSt m c 7 ⊢ iprop(oweSome (F := F) c 0 ∗ bigSep Finset.univ (leaveDone m c)) := by
  unfold leaveSt
  rw [rangeSet_univ]
  exact sep_mono_right sep_elim_right

/-- The last point: block 31, the exchange of the totals, the prefix added to every block. -/
theorem point_last (c : Dev nD) {i : grid0.Coords} (hb : (i 0).val = 31) (h1 : ¬ k0_cond1 i = 1#1) (h2 : k0_cond2 i = 1#1) {a1 : Memref sig .tc .vmem S256x1024 .bf16} {ha1 : a1.IsWhole} {ha2 : outM.IsWhole} {ha3 : commM.IsWhole} {ha4 : carM.IsWhole}
    {X : FVec F S8192x1024 .bf16} (hX : UpTo m c 31 X) {Q : PUnit → sProp 𝕄} :
    iprop(records m K ∗ carB c (carry m c 31) ∗ owns (c : Thread nD τ) a1 fullShare (xblk m c 31) ∗ outB c X
        ∗ (∃ f, row (F := F) c c fullShare f) ∗ oweSome (F := F) c (O₁ c)
        ∗ (bigSep Finset.univ fun k : Fin 7 => iprop(dutyTok ER (sendCell c k) 0 0 ∗ dutyTok ER (recvCell (fwd k c) c) 0 0))
        ∗ (bigSep Finset.univ fun k : Fin 7 => iprop(∃ f, row (F := F) (fwd k c) c fullShare f))
        ∗ (bigSep Finset.univ (recvOne (F := F) c)) ∗ bigSep Finset.univ fun k : Fin 7 => atPos ER (sendCell c k) 0 ∅ 0)
      ⊢ iprop(((carB c (total m c) ∗ owns (c : Thread nD τ) a1 fullShare (xblk m c 31) ∗ outB c (outFin m c)
          ∗ oweSome (F := F) c 0 ∗ row c c shR (commAll m) ∗ bigSep Finset.univ (recvDone m c) ∗ bigSep Finset.univ (leaveDone m c)) -∗ Q ⟨⟩)
      -∗ runs (F := F) c (cc0_body i a1 ha1 outM ha2 commM ha3 carM ha4 cc0_scratch2 cc0_scratch3) Q) := by
  rw [cc0_body_eq_skeleton]
  unfold cc0_body_skel
  simp only [semSignalWord, semWaitWord, Prog.lift, Prog.bind_op, Prog.bind_ret, Prog.pure_eq_ret, dif_neg h1, dif_pos h2, wp_deviceId, bind_assoc]
  iintro ⟨#HR, Hcar, Hin, Hout, Hrow, HO, Htok, Hrows, Hrecv, Hat⟩ Hk
  iapply (wp_block m c (b := 31) ((k0_off1_eq i).trans (by rw [hb]))) $$ [Hcar Hin Hout]
  · isplitl [Hcar]; · iexact Hcar
    isplitl [Hin]; · iexact Hin
    iexact Hout
  iintro ⟨Hcar, Hin, Hout⟩
  have hmix : outB c (putBlk m c 31 X) ⊢ outB c (mix m c 0) := Entails.of_eq (congrArg _ (UpTo.all m (UpTo.put m hX)))
  ihave Hout := hmix $$ Hout
  iapply (bindG (part2 m K c)) $$ [Hcar Hrow HO Htok Hrows]
  · isplitr; · iexact HR
    isplitl [Hcar]; · iexact Hcar
    isplitl [Hrow]; · iexact Hrow
    isplitl [HO]; · iexact HO
    isplitl [Htok]; · iexact Htok
    iexact Hrows
  iintro %v61 ⟨Hcar, Hkeep, HS⟩
  iapply (bindG (part3 m K c)) $$ [HS]
  · isplitr; · iexact HR
    iexact HS
  iintro HS
  iapply (bindG (part4 m K c)) $$ [HS]
  · isplitr; · iexact HR
    iexact HS
  iintro HS
  ihave ⟨HO, Hcr⟩ := (sendSt_end m c) $$ HS
  iapply (bindG (part5 m K c)) $$ [HO Hrecv]
  · isplitr; · iexact HR
    unfold recvSt
    rw [rangeSet_univ, bigSep_rangeSet_empty (Nat.le_refl 0)]
    isplitl [HO]; · iexact HO
    isplitl [Hrecv]; · iexact Hrecv
    iempintro
  iintro %v156 HS
  iapply (bindG (part6 m K c)) $$ [HS]
  · isplitr; · iexact HR
    iexact HS
  iintro %v186 HS
  iapply (bindG (part7 m K c)) $$ [HS Hkeep Hout]
  · isplitr; · iexact HR
    isplitl [HS]; · iexact HS
    isplitl [Hkeep]; · iexact Hkeep
    iexact Hout
  iintro ⟨HS, Hkeep, Hout⟩
  ihave ⟨HO, Hdone⟩ := (recvSt_end m c) $$ HS
  iapply (bindG (part8 m c)) $$ [Hout]
  · iexact Hout
  iintro Hout
  iapply (bindG (part9 m c)) $$ [Hout]
  · iexact Hout
  iintro Hout
  iapply (bindG (part10 m c)) $$ [Hout]
  · iexact Hout
  iintro Hout
  iapply (bindG (part11 m c)) $$ [Hout]
  · iexact Hout
  iintro Hout
  iapply (bindG (part12 m c)) $$ [Hout]
  · iexact Hout
  iintro Hout
  iapply (bindG (part13 m c)) $$ [Hout]
  · iexact Hout
  iintro Hout
  iapply (bindG (part14 m K c)) $$ [HO Hcr Hat]
  · isplitr; · iexact HR
    have hs : iprop((bigSep Finset.univ fun k : Fin 7 => cred (tallyAt (sendCell c k) () N)) ∗ bigSep Finset.univ fun k : Fin 7 => atPos ER (sendCell c k) 0 ∅ 0)
        ⊢ bigSep Finset.univ (leaveOne (F := F) c) := Entails.of_eq (bigSep_sep' _ _ _).symm
    unfold leaveSt
    rw [rangeSet_univ, bigSep_rangeSet_empty (Nat.le_refl 0)]
    isplitl [HO]; · iexact HO
    isplitl [Hcr Hat]
    · iapply hs
      isplitl [Hcr]; · iexact Hcr
      iexact Hat
    iempintro
  iintro HS
  iapply (wp_leave m K c 4 (sendSem rfl) (by rfl)) $$ [HS]
  · isplitr; · iexact HR
    iexact HS
  iintro HS
  iapply (wp_leave m K c 5 (sendSem rfl) (by rfl)) $$ [HS]
  · isplitr; · iexact HR
    iexact HS
  iintro HS
  iapply (wp_leave m K c 6 (sendSem rfl) (by rfl)) $$ [HS]
  · isplitr; · iexact HR
    iexact HS
  iintro HS
  ihave ⟨HO, Hleft⟩ := (show leaveSt m c ((6 : Fin 7).val + 1) ⊢ _ from leaveSt_end m c) $$ HS
  unfold runs
  rw [wp_ret]
  imodintro
  iapply Hk
  isplitl [Hcar]; · iexact Hcar
  isplitl [Hin]; · iexact Hin
  isplitl [Hout]; · iapply (Entails.of_eq (congrArg (outB c) (mix_all m c))); iexact Hout
  isplitl [HO]; · iexact HO
  isplitl [Hkeep]; · iexact Hkeep
  isplitl [Hdone]; · iexact Hdone
  iexact Hleft

end Cert.KernelIdealProof

end
-- ==== Proof.KernelIdeal.Body.lean ====
/-
The kernel body at every grid point

What a device holds before each grid point, what the body may leave in the staged blocks, and that the body takes the device from one
point to the next.
-/
module
public import proofs.«01_k».proof.Proof.KernelIdeal.Point
public import proofs.«01_k».proof.Proof.Gen.KernelIdeal.Points
public import proofs.«01_k».proof.Proof.Gen.KernelIdeal.Launch

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring
open Idealize.ShloMosaic.Pipeline (RDat)

variable {F : FTy → Type} [FloatOps F]

local notation "𝕄" => MT nD τ sig Unit (Elt F) ℕ UU ℕ

variable (m : (ℓ : Loc nD τ sig) → Buf (Elt F) ℓ) (K : Dev nD × Fin 17 → ℕ)

/-! ## What a device holds before a grid point -/

/-- A device's part in the copies: its places at its send and receive semaphores, its permissions for its own copies, the credit of
    the rows it will receive. -/
def xferGhost (c : Dev nD) : sProp 𝕄 :=
  iprop(atPos ER (ownCell c 0) 0 ∅ 0 ∗ atPos ER (recvCell c c) 0 ∅ 0
    ∗ (bigSep Finset.univ fun k : Fin 7 => atPos ER (sendCell c k) 0 ∅ 0)
    ∗ (bigSep Finset.univ fun k : Fin 7 => iprop(dutyTok ER (sendCell c k) 0 0 ∗ dutyTok ER (recvCell (fwd k c) c) 0 0))
    ∗ bigSep Finset.univ (recvOne (F := F) c))

/-- That, with the records and the levels. -/
def ghost (c : Dev nD) : sProp 𝕄 := iprop(records m K ∗ levAts L lv ∗ xferGhost c)

/-- A device's part in the barrier. -/
def barGhost (c : Dev nD) : sProp 𝕄 :=
  iprop(cred (tallyAt (barCell c) () 7) ∗ atPos ER (barCell c) 0 ∅ 0 ∗ bigSep Finset.univ fun k : Fin 7 => dutyTok ER (barCell (fwd k c)) 0 k)

/-- What the launch gives a device. -/
def start (c : Dev nD) : sProp 𝕄 := iprop((∃ K, ghost m K c) ∗ barGhost c)

/-- Before the first point: that, and the exchange buffer and the carry at whatever they hold. -/
def ΦFirst (c : Dev nD) : sProp 𝕄 := iprop(start m c ∗ (∃ f, comm (F := F) c fullShare f) ∗ ∃ f, carB (F := F) c f)

/-- Before point `b`, after the barrier: the carry of the blocks so far; of the exchange buffers, the device's own row of each device's. -/
def ΦMid (b : ℕ) (c : Dev nD) : sProp 𝕄 :=
  iprop((∃ K, ghost m K c) ∗ semVal (barCell c) 0 ∗ (∃ f, row (F := F) c c fullShare f)
    ∗ (bigSep Finset.univ fun k : Fin 7 => iprop(∃ f, row (F := F) (fwd k c) c fullShare f)) ∗ carB c (carry m c b))

/-- After the last point: the device's own buffers, and its semaphores at zero. -/
def ΦLast (c : Dev nD) : sProp 𝕄 :=
  iprop((∃ f, comm (F := F) c fullShare f) ∗ (∃ f, carB (F := F) c f) ∗ semVal (barCell c) 0
    ∗ bigSep Finset.univ fun i : Fin 16 => semVal (ownCell c i) 0)

/-- Before point `b`. -/
def ΦAt (b : ℕ) (c : Dev nD) : sProp 𝕄 := if b = 0 then ΦFirst m c else if b < 32 then ΦMid m b c else ΦLast c

/-- What a device owes before point `b`. -/
def owedAt (b : ℕ) (c : Dev nD) : CellTallies nD τ sig Unit := if b = 0 then O₀ c else if b < 32 then O₁ c else 0

/-! ## From one point to the next -/

section Points
variable (c : Dev nD)

omit [FloatOps F] in
/-- What the signals need: the seven permissions and the seven rows of the device's exchange buffer that the others will fill. -/
theorem signals_ready (f : FVec F S8x1x1024 .f32) :
    iprop((bigSep Finset.univ fun k : Fin 7 => dutyTok ER (barCell (fwd k c)) 0 k) ∗ comm c fullShare f)
      ⊢ iprop(row c c fullShare f ∗ bigSep Finset.univ (sigOne (F := F) c)) := by
  have h : bigSep Finset.univ (fun k : Fin 7 => iprop(dutyTok ER (barCell (fwd k c)) 0 k ∗ row (F := F) c (fwd k c) fullShare f))
      ⊢ bigSep Finset.univ (sigOne (F := F) c) := bigSep_mono fun k _ => by
    show iprop(dutyTok ER (barCell (fwd k c)) 0 k ∗ row (F := F) c (fwd k c) fullShare f) ⊢ iprop(dutyTok ER (barCell (fwd k c)) 0 k ∗ ∃ f, row (F := F) c (fwd k c) fullShare f)
    iintro ⟨HT, HR⟩
    isplitl [HT]; · iexact HT
    iexists f
    iexact HR
  have hs : iprop((bigSep Finset.univ fun k : Fin 7 => dutyTok ER (barCell (fwd k c)) 0 k) ∗ bigSep Finset.univ fun k : Fin 7 => row (F := F) c (fwd k c) fullShare f)
      ⊢ bigSep Finset.univ (fun k : Fin 7 => iprop(dutyTok ER (barCell (fwd k c)) 0 k ∗ row (F := F) c (fwd k c) fullShare f)) :=
    Entails.of_eq (bigSep_sep' _ _ _).symm
  rw [comm_rows, bigSep_ahead c]
  iintro ⟨HT, Hown, Hrows⟩
  isplitl [Hown]; · iexact Hown
  iapply h
  iapply hs
  isplitl [HT]; · iexact HT
  iexact Hrows

/-- The first point. -/
theorem step_first {i : grid0.Coords} {a1 : Memref sig .tc .vmem S256x1024 .bf16} {ha1 : a1.IsWhole} {ha2 : outM.IsWhole} {ha3 : commM.IsWhole} {ha4 : carM.IsWhole}
    {X : FVec F S8192x1024 .bf16} {Q : PUnit → sProp 𝕄} (hb : (i 0).val = 0) (h1 : k0_cond1 i = 1#1) (h2 : ¬ k0_cond2 i = 1#1) :
    iprop(ΦFirst m c ∗ oweSome (F := F) c (O₀ c) ∗ owns (c : Thread nD τ) a1 fullShare (xblk m c 0) ∗ outB c X)
      ⊢ iprop(((ΦMid m 1 c ∗ oweSome (F := F) c (O₁ c) ∗ owns (c : Thread nD τ) a1 fullShare (xblk m c 0) ∗ outB c (putBlk m c 0 X)) -∗ Q ⟨⟩)
      -∗ runs (F := F) c (cc0_body i a1 ha1 outM ha2 commM ha3 carM ha4 cc0_scratch2 cc0_scratch3) Q) := by
  unfold ΦFirst start barGhost
  iintro ⟨⟨⟨⟨%K, Hg⟩, Hcr, Hat, Htok⟩, ⟨%f, Hcomm⟩, Hcar⟩, HO, Hin, Hout⟩ Hk
  unfold ghost
  icases Hg with ⟨#HR, #Hlev, Hx⟩
  ihave ⟨Hown, Hsig⟩ := (signals_ready c f) $$ [Htok Hcomm]
  · isplitl [Htok]; · iexact Htok
    iexact Hcomm
  iapply (point_first m K c hb h1 h2) $$ [HO Hsig Hcr Hat Hcar Hin Hout]
  · isplitr; · iexact HR
    isplitr; · iexact Hlev
    isplitl [HO Hsig]
    · unfold sigSt
      rw [rangeSet_univ]
      isplitl [HO]; · iexact HO
      iexact Hsig
    isplitl [Hcr]; · iexact Hcr
    isplitl [Hat]; · iexact Hat
    isplitl [Hcar]; · iexact Hcar
    isplitl [Hin]; · iexact Hin
    iexact Hout
  iintro ⟨HO, Hz, Hrows, Hcar, Hin, Hout⟩
  iapply Hk
  isplitl [Hx Hz Hrows Hcar Hown]
  · unfold ΦMid ghost
    isplitl [Hx]
    · iexists K
      isplitr; · iexact HR
      isplitr; · iexact Hlev
      iexact Hx
    isplitl [Hz]; · iexact Hz
    isplitl [Hown]; · iexists f; iexact Hown
    isplitl [Hrows]; · iexact Hrows
    iexact Hcar
  isplitl [HO]; · iexact HO
  isplitl [Hin]; · iexact Hin
  iexact Hout

/-- A point between. -/
theorem step_mid {i : grid0.Coords} {a1 : Memref sig .tc .vmem S256x1024 .bf16} {ha1 : a1.IsWhole} {ha2 : outM.IsWhole} {ha3 : commM.IsWhole} {ha4 : carM.IsWhole}
    {X : FVec F S8192x1024 .bf16} {Q : PUnit → sProp 𝕄} {b : ℕ} (hb : (i 0).val = b) (h1 : ¬ k0_cond1 i = 1#1) (h2 : ¬ k0_cond2 i = 1#1) :
    iprop(ΦMid m b c ∗ oweSome (F := F) c (O₁ c) ∗ owns (c : Thread nD τ) a1 fullShare (xblk m c b) ∗ outB c X)
      ⊢ iprop(((ΦMid m (b + 1) c ∗ oweSome (F := F) c (O₁ c) ∗ owns (c : Thread nD τ) a1 fullShare (xblk m c b) ∗ outB c (putBlk m c b X)) -∗ Q ⟨⟩)
      -∗ runs (F := F) c (cc0_body i a1 ha1 outM ha2 commM ha3 carM ha4 cc0_scratch2 cc0_scratch3) Q) := by
  unfold ΦMid
  iintro ⟨⟨Hg, Hz, Hown, Hrows, Hcar⟩, HO, Hin, Hout⟩ Hk
  iapply (point_mid m c hb h1 h2) $$ [Hcar Hin Hout]
  · isplitl [Hcar]; · iexact Hcar
    isplitl [Hin]; · iexact Hin
    iexact Hout
  iintro ⟨Hcar, Hin, Hout⟩
  iapply Hk
  isplitl [Hg Hz Hrows Hcar Hown]
  · isplitl [Hg]; · iexact Hg
    isplitl [Hz]; · iexact Hz
    isplitl [Hown]; · iexact Hown
    isplitl [Hrows]; · iexact Hrows
    iexact Hcar
  isplitl [HO]; · iexact HO
  isplitl [Hin]; · iexact Hin
  iexact Hout

/-- After the copies: the exchange buffer is whole again, and the sixteen semaphores of the copies are at zero. -/
theorem copies_done :
    iprop(row c c shR (commAll m) ∗ bigSep Finset.univ (recvDone m c) ∗ bigSep Finset.univ (leaveDone m c) ∗ semVal (ownCell c 0) 0 ∗ semVal (recvCell c c) 0)
      ⊢ iprop((∃ f, comm (F := F) c fullShare f) ∗ bigSep Finset.univ fun i : Fin 16 => semVal (ownCell c i) 0) := by
  have hr : bigSep Finset.univ (recvDone m c)
      ⊢ iprop((bigSep Finset.univ fun k : Fin 7 => row c (bwd k c) fullShare (commAll m)) ∗ bigSep Finset.univ fun k : Fin 7 => semVal (recvCell c (bwd k c)) 0) :=
    Entails.of_eq (bigSep_sep' _ _ _)
  have hl : bigSep Finset.univ (leaveDone m c)
      ⊢ iprop((bigSep Finset.univ fun k : Fin 7 => row c c (sh k) (commAll m)) ∗ bigSep Finset.univ fun k : Fin 7 => semVal (sendCell c k) 0) :=
    Entails.of_eq (bigSep_sep' _ _ _)
  have hown : iprop((bigSep Finset.univ fun k : Fin 7 => row c c (sh k) (commAll m)) ∗ row c c shR (commAll m)) ⊢ row c c fullShare (commAll m) :=
    Entails.of_eq (row_shares c c (commAll m)).symm
  have hall : iprop(row c c fullShare (commAll m) ∗ bigSep Finset.univ fun k : Fin 7 => row c (bwd k c) fullShare (commAll m)) ⊢ comm c fullShare (commAll m) :=
    Entails.of_eq ((comm_rows c fullShare (commAll m)).trans (bigSep_around c _)).symm
  have hs : iprop((semVal (ownCell c 0) 0 ∗ bigSep Finset.univ fun k : Fin 7 => semVal (sendCell c k) 0) ∗ (semVal (recvCell c c) 0 ∗ bigSep Finset.univ fun k : Fin 7 => semVal (recvCell c (bwd k c)) 0))
      ⊢ (bigSep Finset.univ fun i : Fin 16 => semVal (ownCell c i) 0 : sProp 𝕄) :=
    Entails.of_eq (own_split c fun q => semVal ((c : Thread nD τ), .dma q) 0).symm
  iintro ⟨Hk, Hr, Hl, H0, Hc⟩
  ihave ⟨Hr, Hrz⟩ := hr $$ Hr
  ihave ⟨Hl, Hlz⟩ := hl $$ Hl
  isplitl [Hk Hr Hl]
  · iexists (commAll m)
    iapply hall
    isplitl [Hk Hl]
    · iapply hown
      isplitl [Hl]; · iexact Hl
      iexact Hk
    iexact Hr
  iapply hs
  isplitl [H0 Hlz]
  · isplitl [H0]; · iexact H0
    iexact Hlz
  isplitl [Hc]; · iexact Hc
  iexact Hrz

/-- The last point. -/
theorem step_last {i : grid0.Coords} {a1 : Memref sig .tc .vmem S256x1024 .bf16} {ha1 : a1.IsWhole} {ha2 : outM.IsWhole} {ha3 : commM.IsWhole} {ha4 : carM.IsWhole}
    {X : FVec F S8192x1024 .bf16} {Q : PUnit → sProp 𝕄} (hb : (i 0).val = 31) (h1 : ¬ k0_cond1 i = 1#1) (h2 : k0_cond2 i = 1#1) (hX : UpTo m c 31 X) :
    iprop(ΦMid m 31 c ∗ oweSome (F := F) c (O₁ c) ∗ owns (c : Thread nD τ) a1 fullShare (xblk m c 31) ∗ outB c X)
      ⊢ iprop(((ΦLast c ∗ oweSome (F := F) c 0 ∗ owns (c : Thread nD τ) a1 fullShare (xblk m c 31) ∗ outB c (outFin m c)) -∗ Q ⟨⟩)
      -∗ runs (F := F) c (cc0_body i a1 ha1 outM ha2 commM ha3 carM ha4 cc0_scratch2 cc0_scratch3) Q) := by
  unfold ΦMid
  iintro ⟨⟨⟨%K, Hg⟩, Hz, Hown, Hrows, Hcar⟩, HO, Hin, Hout⟩ Hk
  unfold ghost xferGhost
  icases Hg with ⟨#HR, #Hlev, Hat0, Hatc, Hats, Htok, Hrecv⟩
  unfold runs
  imod (Rounds.cell_close ER (ringRd m) (Set.mem_univ (K (c, 1))) (fun h => h) (R := 0) (fun r _ => duties_own0 m c r)) $$ [Hat0] with H0
  · isplitr; · iapply (inv_own0 m K c); iexact HR
    iexact Hat0
  imod (Rounds.cell_close ER (ringRd m) (Set.mem_univ (K (c, recvIx c))) (fun h => h) (R := 0) (fun r _ => duties_recv_self m c r)) $$ [Hatc] with Hc
  · isplitr; · iapply (inv_recv m K c c); iexact HR
    iexact Hatc
  iapply (point_last m K c hb h1 h2 hX) $$ [Hcar Hin Hout Hown HO Htok Hrows Hrecv Hats]
  · isplitr; · iexact HR
    isplitl [Hcar]; · iexact Hcar
    isplitl [Hin]; · iexact Hin
    isplitl [Hout]; · iexact Hout
    isplitl [Hown]; · iexact Hown
    isplitl [HO]; · iexact HO
    isplitl [Htok]; · iexact Htok
    isplitl [Hrows]; · iexact Hrows
    isplitl [Hrecv]; · iexact Hrecv
    iexact Hats
  iintro ⟨Hcar, Hin, Hout, HO, Hkeep, Hdone, Hleft⟩
  iapply Hk
  ihave ⟨Hcomm, Hsems⟩ := (copies_done m c) $$ [Hkeep Hdone Hleft H0 Hc]
  · isplitl [Hkeep]; · iexact Hkeep
    isplitl [Hdone]; · iexact Hdone
    isplitl [Hleft]; · iexact Hleft
    isplitl [H0]; · iexact H0
    iexact Hc
  isplitl [Hcomm Hsems Hz Hcar]
  · unfold ΦLast
    isplitl [Hcomm]; · iexact Hcomm
    isplitl [Hcar]; · iexists _; iexact Hcar
    isplitl [Hz]; · iexact Hz
    iexact Hsems
  isplitl [HO]; · iexact HO
  isplitl [Hin]; · iexact Hin
  iexact Hout

end Points

/-! ## The body at every point -/

theorem cond1 (i : grid0.Coords) : Iff (k0_cond1 i = 1#1) ((i 0).val = 0) := by
  unfold k0_cond1
  generalize i 0 = n
  revert n
  decide
theorem cond2 (i : grid0.Coords) : Iff (k0_cond2 i = 1#1) ((i 0).val = 31) := by
  unfold k0_cond2
  generalize i 0 = n
  revert n
  decide

/-- What is found in the result's staged block after point `b`, if `X` is there: the blocks so far of the local cumulative sum, and after the
    last point the result. -/
def Done (c : Dev nD) (b : ℕ) (X : FVec F S8192x1024 .bf16) : Prop := if b = 31 then X = outFin m c else UpTo m c (b + 1) X

/-- One point: from what a device holds before point `b` to what it holds after it. -/
theorem step_at (c : Dev nD) {i : grid0.Coords} {b : ℕ} (hb : (i 0).val = b) {a1 : Memref sig .tc .vmem S256x1024 .bf16} {ha1 : a1.IsWhole} {ha2 : outM.IsWhole}
    {ha3 : commM.IsWhole} {ha4 : carM.IsWhole} {X : FVec F S8192x1024 .bf16} (hX : UpTo m c b X) {Q : PUnit → sProp 𝕄} :
    iprop(ΦAt m b c ∗ oweSome (F := F) c (owedAt b c) ∗ owns (c : Thread nD τ) a1 fullShare (xblk m c b) ∗ outB c X)
      ⊢ iprop(((ΦAt m (b + 1) c ∗ oweSome (F := F) c (owedAt (b + 1) c) ∗ owns (c : Thread nD τ) a1 fullShare (xblk m c b) ∗ ∃ Y, ⌜Done m c b Y⌝ ∗ outB c Y) -∗ Q ⟨⟩)
      -∗ runs (F := F) c (cc0_body i a1 ha1 outM ha2 commM ha3 carM ha4 cc0_scratch2 cc0_scratch3) Q) := by
  have hlt : b < 32 := hb ▸ (i 0).isLt
  have hpost : ∀ (A B G : sProp 𝕄) {Y : FVec F S8192x1024 .bf16}, Done m c b Y → iprop(A ∗ B ∗ G ∗ outB c Y) ⊢ iprop(A ∗ B ∗ G ∗ ∃ Y, ⌜Done m c b Y⌝ ∗ outB c Y) := by
    intro A B G Y hY
    iintro ⟨HA, HB, HG, HO⟩
    isplitl [HA]; · iexact HA
    isplitl [HB]; · iexact HB
    isplitl [HG]; · iexact HG
    iexists Y
    isplitr; · ipureintro; exact hY
    iexact HO
  have hnext : ∀ {P P' R T : sProp 𝕄}, (P' ⊢ iprop((P -∗ Q ⟨⟩) -∗ T)) → (P ⊢ R) → (P' ⊢ iprop((R -∗ Q ⟨⟩) -∗ T)) := by
    intro P P' R T h hPR
    iintro HP Hk
    iapply h $$ HP
    iintro H
    iapply Hk
    iapply hPR
    iexact H
  by_cases h0 : b = 0
  · subst h0
    have hd : Done m c 0 (putBlk m c 0 X) := by
      unfold Done; rw [if_neg (by decide)]; exact hX.put
    have h := hnext (step_first m c (ha1 := ha1) (ha2 := ha2) (ha3 := ha3) (ha4 := ha4) (Q := Q) hb ((cond1 i).mpr hb) (fun h => by have := (cond2 i).mp h; omega)) (hpost _ _ _ hd)
    exact h
  · have e1 : ΦAt m b c = ΦMid m b c := by unfold ΦAt; rw [if_neg h0, if_pos hlt]
    have e2 : owedAt b c = O₁ c := by unfold owedAt; rw [if_neg h0, if_pos hlt]
    rw [e1, e2]
    have n1 : ¬ k0_cond1 i = 1#1 := fun h => h0 (hb ▸ (cond1 i).mp h)
    by_cases h31 : b = 31
    · subst h31
      have hd : Done m c 31 (outFin m c) := by unfold Done; rw [if_pos rfl]
      have h := hnext (step_last m c (ha1 := ha1) (ha2 := ha2) (ha3 := ha3) (ha4 := ha4) (Q := Q) hb n1 ((cond2 i).mpr hb) hX) (hpost _ _ _ hd)
      exact h
    · have hd : Done m c b (putBlk m c b X) := by
        unfold Done; rw [if_neg h31]; exact hX.put
      have e3 : ΦAt m (b + 1) c = ΦMid m (b + 1) c := by unfold ΦAt; rw [if_neg (by omega), if_pos (by omega)]
      have e4 : owedAt (b + 1) c = O₁ c := by unfold owedAt; rw [if_neg (by omega), if_pos (by omega)]
      rw [e3, e4]
      exact hnext (step_mid m c hb n1 (fun h => h31 (hb ▸ (cond2 i).mp h))) (hpost _ _ _ hd)

/-- The run's data: the arrays at entry, what the body may leave in the staged blocks, what a device holds and owes between points. -/
def rdats (_ : Fin 1) (c : Dev nD) : RDat τ (Elt F) Unit ℕ UU ℕ cfg0 c where
  A w := m ((cfg0.win w).arr.view.loc (c : Thread nD τ))
  after w t := match w with
    | ⟨0, _⟩ => fun Y X => X = Y
    | ⟨1, _⟩ => fun _ X => Done m c t.val X
  Φ t := ΦAt m t.val c
  q _ := fullShare
  owed t := owedAt t.val c

theorem fetch0_1 : ∀ t : Fin cfg0.N, (cfg0.win 1).fetch t = false := fun _ => rfl

/-- The input's staged block at point `t` is block `t` of the device's rows. -/
theorem finds_in (c : Dev nD) (t : Fin cfg0.N) (Y) (h : (rdats m 0 c).Finds 0 t Y) : Y = xblk m c t.val := by
  rw [RDat.finds_of_fetch _ (fetch0_0 t)] at h
  obtain ⟨d, rfl⟩ := h
  have ht : t.val < 32 := N_0 ▸ t.isLt
  have hc : (grid0.coords t 0).val = t.val := by
    rw [Pipeline.Grid.coords_val t 0 (S := 1) (B := 32) (by decide) (by decide)]; omega
  funext x
  show (m (win0_0.arr.view.loc (c : Thread nD τ)) : FVec F S8192x1024 .bf16) _ = m ((c : Thread nD τ).loc main_arg0) _
  congr 1
  have h0 : (x 0).val < 256 := (x 0).isLt
  funext a
  refine Fin.ext ?_
  match a with
  | ⟨0, _⟩ =>
    show (BitVec.ofNat 32 (grid0.coords t 0).val).toNat * 256 + 1 * (x 0).val = (256 * t.val + (x 0).val) % 8192
    rw [hc, BitVec.toNat_ofNat]; omega
  | ⟨1, _⟩ =>
    show 0 * 1024 + 1 * (x 1).val = (x 1).val
    omega

/-- The result's staged block at point `t` has the blocks before `t` of the local cumulative sum. -/
theorem finds_out (c : Dev nD) (t : Fin cfg0.N) (Y) (h : (rdats m 0 c).Finds 1 t Y) : UpTo m c t.val Y := by
  have ht : t.val < 32 := N_0 ▸ t.isLt
  by_cases h0 : t.val = 0
  · rw [h0]; exact UpTo.zero m c Y
  · rcases (RDat.finds_of_pos _ (fetch0_1 t) h0 Y).mp h with h | ⟨Z, -, h⟩
    · have h' := (flush0_1 _).mp h
      have h'' : (t.val - 1) % 32 = 31 := h'
      omega
    · have h' : Done m c (t.val - 1) Y := h
      unfold Done at h'
      rw [if_neg (by omega), show t.val - 1 + 1 = t.val by omega] at h'
      exact h'

/-- The body takes every device from each grid point to the next. -/
theorem body_obligation (c : Dev nD) : (rdats (F := F) m 0 c).BodyObligation (defs₀ (F := F)) 𝒱₀ () Set.univ := fun t Y hY => by
  have hin := finds_in m c t (Y 0) (hY 0)
  have hout := finds_out m c t (Y 1) (hY 1)
  have hc : (grid0.coords t 0).val = t.val := by
    have ht : t.val < 32 := N_0 ▸ t.isLt
    rw [Pipeline.Grid.coords_val t 0 (S := 1) (B := 32) (by decide) (by decide)]; omega
  rw [bigSep_W0, bigSep_W0]
  suffices hrun : ∀ (s : Fin (cfg0.win 1).nbuf), iprop(ΦAt m t.val c ∗ (rdats m 0 c).owesAt () t.castSucc
      ∗ owns (c : Thread nD τ) (win0_0.stage (cfg0.slots t 0)) fullShare (Y 0) ∗ owns (c : Thread nD τ) (win0_1.stage s) fullShare (Y 1))
    ⊢ runs (F := F) c (cc0_body (grid0.coords t) (win0_0.stage (cfg0.slots t 0)) (hstage0_0 ((cfg0.slots t 0).cast nbuf0_0)) (win0_1.stage s) (hstage0_1 (s.cast nbuf0_1))
      (Memref.whole cc0_scratch0) (Memref.isWhole_whole _) (Memref.whole cc0_scratch1) (Memref.isWhole_whole _) cc0_scratch2 cc0_scratch3) fun _ => iprop(ΦAt m (t.val + 1) c ∗ (rdats m 0 c).owesAt () t.succ
      ∗ (∃ X, ⌜X = Y 0⌝ ∗ owns (c : Thread nD τ) (win0_0.stage (cfg0.slots t 0)) fullShare X)
      ∗ (∃ X, ⌜Done m c t.val X⌝ ∗ owns (c : Thread nD τ) (win0_1.stage s) fullShare X)) from
    hrun (cfg0.slots t 1)
  intro s
  obtain rfl : s = (0 : Fin 1) := Subsingleton.elim (α := Fin 1) _ _
  rw [hin]
  iintro ⟨HΦ, ⟨%W, -, HO⟩, Hin, Hout⟩
  ihave Hout := (Entails.of_eq (owns_whole_eq (c : Thread nD τ) cc0_stg1_0 fullShare (Y 1))) $$ Hout
  icases Hout with ⟨%f, %hf, Hout⟩
  subst hf
  iapply (step_at m c hc hout) $$ [HΦ HO Hin Hout]
  · isplitl [HΦ]; · iexact HΦ
    isplitl [HO]
    · unfold oweSome
      iexists W
      iexact HO
    isplitl [Hin]; · iexact Hin
    unfold outB
    iexact Hout
  iintro ⟨HΦ, HO, Hin, ⟨%X, %hX, Hout⟩⟩
  isplitl [HΦ]; · iexact HΦ
  isplitl [HO]
  · unfold oweSome
    icases HO with ⟨%W', HO⟩
    iexists W'
    isplitr; · ipureintro; exact fun _ _ => Or.inl trivial
    iexact HO
  isplitl [Hin]
  · iexists _
    isplitr; · ipureintro; rfl
    iexact Hin
  iexists X
  isplitr; · ipureintro; exact hX
  iapply (Entails.of_eq (owns_whole_eq (c : Thread nD τ) cc0_stg1_0 fullShare X).symm)
  iexists X
  isplitr; · ipureintro; rfl
  unfold outB
  iexact Hout

end Cert.KernelIdealProof

end
-- ==== Proof.KernelIdeal.Launch.lean ====
/-
The launch

What the launch deals the devices: every semaphore's invariant, allocated for all devices at once, each device's places at its own
semaphores, the permissions to pay, dealt around the ring to the devices that pay, and the credit of what others owe it.
-/
module
public import proofs.«01_k».proof.Proof.KernelIdeal.Body

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring
open Idealize.ShloMosaic.Pipeline (RDat)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (rdats m 0 c).share w = fullShare := by unfold RDat.share; split <;> rfl

/-! ## The semaphores and the permissions -/

theorem csem_injective : Function.Injective csem := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

/-- The semaphore (0: the barrier's, 1: a send, 2: a receive) at which permission `k` of device `c`'s own is paid, -/
abbrev tokSem (c : Dev nD) : Fin 3 → Fin 7 → SemLoc sig
  | 0, _ => .reg barS
  | 1, k => .dma (sendQ k)
  | 2, k => .dma (recvQ (bwd k c))
/-- and the duty it pays. -/
abbrev tokDuty : Fin 3 → Fin 7 → Fin 7
  | 0, k => k
  | _, _ => 0
/-- The permissions of the devices' own semaphores, as they are first handed out. -/
abbrev tokOf (x : Dev nD × Fin 3 × Fin 7) : GSem nD τ sig × ℕ × Fin 7 := (((x.1 : Thread nD τ), tokSem x.1 x.2.1 x.2.2), 0, tokDuty x.2.1 x.2.2)

theorem tokOf_injective : Function.Injective tokOf := by
  rintro ⟨c, j, k⟩ ⟨c', j', k'⟩ h
  have h1 : c = c' := congrArg (fun x : GSem nD τ sig × ℕ × Fin 7 => x.1.1.1) h
  subst h1
  have h2 : tokSem c j k = tokSem c j' k' := congrArg (fun x : GSem nD τ sig × ℕ × Fin 7 => x.1.2) h
  have h3 : tokDuty j k = tokDuty j' k' := congrArg (fun x : GSem nD τ sig × ℕ × Fin 7 => x.2.2) h
  have h4 : ∀ c : Dev nD, ∀ j j' : Fin 3, ∀ k k' : Fin 7, tokSem c j k = tokSem c j' k' → tokDuty j k = tokDuty j' k' → (j, k) = (j', k') := by
    intro c j j' k k'
    match j, j' with
    | 0, 0 => exact fun _ h => congrArg (Prod.mk 0) h
    | 0, 1 => exact fun h => nomatch h
    | 0, 2 => exact fun h => nomatch h
    | 1, 0 => exact fun h => nomatch h
    | 1, 1 => exact fun h _ => congrArg (Prod.mk 1) (sendQ_inj (SemLoc.dma.inj h))
    | 1, 2 => exact fun h => absurd (SemLoc.dma.inj h).symm (recv_ne_send _ _)
    | 2, 0 => exact fun h => nomatch h
    | 2, 1 => exact fun h => absurd (SemLoc.dma.inj h) (recv_ne_send _ _)
    | 2, 2 => exact fun h _ => congrArg (Prod.mk 2) (bwd_inj c (recvQ_inj (SemLoc.dma.inj h)))
  rw [h4 c j j' k k' h2 h3]

def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The permissions of device `c`'s own semaphores. -/
def toks (c : Dev nD) : sProp 𝕄 :=
  iprop((bigSep Finset.univ fun k : Fin 7 => dutyTok ER (barCell c) 0 k) ∗ (bigSep Finset.univ fun k : Fin 7 => dutyTok ER (sendCell c k) 0 0)
    ∗ bigSep Finset.univ fun k : Fin 7 => dutyTok ER (recvCell c (bwd k c)) 0 0)

/-- What the launch first deals device `c`. -/
def G (c : Dev nD) : sProp 𝕄 :=
  iprop((bigSep Finset.univ fun k : Fin 17 => roundState ER (ringRd m) (kcell (c, k)) 0)
    ∗ (bigSep Finset.univ fun k : Fin 17 => iprop(atPos ER (kcell (c, k)) 0 ∅ 0 ∗ reached ER (kcell (c, k)) 0)) ∗ toks c)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

omit [FloatOps F] in
/-- The seventeen semaphores: the barrier's and the sixteen own ones. -/
theorem bigSep_cells (Φ : Fin 17 → sProp 𝕄) : bigSep Finset.univ Φ = iprop(Φ 0 ∗ bigSep Finset.univ fun i : Fin 16 => Φ i.succ) := by
  rw [Fin.univ_succ, Finset.cons_eq_insert, bigSep_insert (by simp [Fin.succ_ne_zero]), bigSep_map]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by rw [bigSep_univ_prod, bigSep_three]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun i : Fin 16 => semVal (ownCell c i) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_eq, unscopedSems0_eq, bigSep_cells]
  iintro ⟨HO, HB⟩
  isplitl [HB]; · iexact HB
  iexact HO

/-- One device's invariants are allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The permissions device `c` pays with. -/
def payToks (c : Dev nD) : sProp 𝕄 :=
  iprop((bigSep Finset.univ fun k : Fin 7 => dutyTok ER (barCell (fwd k c)) 0 k)
    ∗ bigSep Finset.univ fun k : Fin 7 => iprop(dutyTok ER (sendCell c k) 0 0 ∗ dutyTok ER (recvCell (fwd k c) c) 0 0))
/-- What stays with it: its places too. -/
def linear (c : Dev nD) : sProp 𝕄 := iprop((bigSep Finset.univ fun k : Fin 17 => atPos ER (kcell (c, k)) 0 ∅ 0) ∗ payToks c)
/-- What the global step makes of the dealing. -/
def G' (c : Dev nD) : sProp 𝕄 := iprop(∃ K, records m K ∗ linear c)

omit [FloatOps F] in
/-- A family over devices and `k`, each member moved `k + 1` places along the ring. -/
theorem around (Φ : Dev nD → Fin 7 → sProp 𝕄) :
    (bigSep Finset.univ fun c => bigSep Finset.univ fun k => Φ c k) = bigSep Finset.univ fun c => bigSep Finset.univ fun k => Φ (fwd k c) k := by
  rw [bigSep_univ_comm Φ, bigSep_congr (fun k _ => bigSep_univ_equiv (step k) (fun c => Φ c k)), bigSep_univ_comm]
  rfl

omit [FloatOps F] in
/-- The permissions go to the devices that pay with them. -/
theorem toks_around : (bigSep Finset.univ fun c : Dev nD => (toks c : sProp 𝕄)) ⊢ bigSep Finset.univ fun c : Dev nD => payToks c := by
  have h1 : (bigSep Finset.univ fun c : Dev nD => (toks c : sProp 𝕄))
      = iprop((bigSep Finset.univ fun c => bigSep Finset.univ fun k : Fin 7 => dutyTok ER (barCell c) 0 k)
        ∗ (bigSep Finset.univ fun c => bigSep Finset.univ fun k : Fin 7 => dutyTok ER (sendCell c k) 0 0)
        ∗ bigSep Finset.univ fun c => bigSep Finset.univ fun k : Fin 7 => dutyTok ER (recvCell c (bwd k c)) 0 0) := by
    unfold toks; rw [bigSep_sep', bigSep_sep']
  have h2 : (bigSep Finset.univ fun c : Dev nD => (payToks c : sProp 𝕄))
      = iprop((bigSep Finset.univ fun c => bigSep Finset.univ fun k : Fin 7 => dutyTok ER (barCell (fwd k c)) 0 k)
        ∗ (bigSep Finset.univ fun c => bigSep Finset.univ fun k : Fin 7 => dutyTok ER (sendCell c k) 0 0)
        ∗ bigSep Finset.univ fun c => bigSep Finset.univ fun k : Fin 7 => dutyTok ER (recvCell (fwd k c) c) 0 0) := by
    unfold payToks; rw [bigSep_sep', bigSep_congr (fun c _ => bigSep_sep' _ _ _), bigSep_sep']
  have h3 : (bigSep Finset.univ fun c => bigSep Finset.univ fun k : Fin 7 => (dutyTok ER (recvCell c (bwd k c)) 0 0 : sProp 𝕄))
      = bigSep Finset.univ fun c => bigSep Finset.univ fun k : Fin 7 => dutyTok ER (recvCell (fwd k c) c) 0 0 := by
    rw [around fun c k => dutyTok ER (recvCell c (bwd k c)) 0 0]
    exact bigSep_congr fun c _ => bigSep_congr fun k _ => by rw [bwd_fwd]
  rw [h1, h2, h3, around fun c k => dutyTok ER (barCell c) 0 k]

/-- The invariants are every device's. -/
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 17 => iprop(∃ κ : ℕ, cellInv ER (ringRd m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (ringRd m) κ (kcell ck) : sProp 𝕄))) $$ HI
  icases HK with ⟨%K, #HI⟩
  ihave Htk := (toks_around (F := F)) $$ Htok
  have hG : ∀ c ∈ (Finset.univ : Finset (Dev nD)), iprop(records m K ∗ linear c) ⊢ G' m c := fun c _ => by
    unfold G'
    iintro H
    iexists K
    iexact H
  have hall : iprop(records m K ∗ bigSep Finset.univ fun c => linear c) ⊢ bigSep Finset.univ (G' m) :=
    (sep_mono_left (BI.bigSep_of_persistent Finset.univ (records m K))).trans ((Entails.of_eq (bigSep_sep' _ _ _).symm).trans (bigSep_mono hG))
  have hlin : iprop((bigSep Finset.univ fun c : Dev nD => bigSep Finset.univ fun k : Fin 17 => (atPos ER (kcell (c, k)) 0 ∅ 0 : sProp 𝕄)) ∗ bigSep Finset.univ fun c => payToks c)
      ⊢ bigSep Finset.univ fun c : Dev nD => linear c := Entails.of_eq (bigSep_sep' _ _ _).symm
  iapply hall
  isplitr
  · unfold records; isplitl; · iexact HI
    iexact HR
  · iapply hlin
    isplitl [Hat]; · iexact Hat
    iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem sumFrom_zero (f : Fin 7 → CellTallies nD τ sig Unit) (g : GSem nD τ sig) : sumFrom f 0 g () = ∑ k, f k g () := by
  unfold sumFrom
  rw [rangeSet_univ, Finset.sum_apply, Finsupp.finset_sum_apply]

theorem bar_eq_iff {a b : Dev nD} : Iff (barCell a = barCell b) (a = b) :=
  ⟨fun h => congrArg (fun g : GSem nD τ sig => g.1.1) h, fun h => h ▸ rfl⟩
theorem recv_eq_iff {a b j j' : Dev nD} : Iff (recvCell a j = recvCell b j') (a = b ∧ j = j') :=
  ⟨fun h => ⟨congrArg (fun g : GSem nD τ sig => g.1.1) h, recvQ_inj (SemLoc.dma.inj (congrArg (fun g : GSem nD τ sig => g.2) h))⟩, fun h => by rw [h.1, h.2]⟩
theorem recv_ne_bar (a b j : Dev nD) : recvCell a j ≠ barCell b := fun h => nomatch (congrArg (fun g : GSem nD τ sig => g.2) h)

/-- What device `d` owes a barrier semaphore, -/
theorem owed_bar (d c : Dev nD) : O₀ d (barCell c) () = ∑ k : Fin 7, if d = bwd k c then 1 else 0 := by
  unfold O₀ O₁
  rw [Pi.add_apply, Finsupp.add_apply, sumFrom_zero, sumFrom_zero, Finset.sum_eq_zero, Nat.zero_add]
  · refine Finset.sum_congr rfl fun k _ => ?_
    unfold owedBar
    rw [tallyAt_apply]
    refine if_congr ⟨fun h => ?_, fun h => ⟨?_, rfl⟩⟩ rfl rfl
    · rw [bar_eq_iff.mp h.1, bwd_fwd]
    · rw [h, fwd_bwd]
  · intro k _
    unfold owedRecv
    rw [tallyAt_ne_cell (fun h => recv_ne_bar _ _ _ h.symm)]; rfl

/-- and a receive semaphore. -/
theorem owed_recv (d c : Dev nD) (k : Fin 7) : O₀ d (recvCell c (bwd k c)) () = if d = bwd k c then N else 0 := by
  unfold O₀ O₁
  rw [Pi.add_apply, Finsupp.add_apply, sumFrom_zero, sumFrom_zero, Finset.sum_eq_zero (s := Finset.univ) (f := fun k' => owedBar d k' (recvCell c (bwd k c)) ()), Nat.add_zero]
  · have h : ∀ k' : Fin 7, owedRecv d k' (recvCell c (bwd k c)) () = if k' = k then (if d = bwd k c then N else 0) else 0 := by
      intro k'
      unfold owedRecv
      rw [tallyAt_apply, ← ite_and]
      refine if_congr ⟨fun h => ?_, fun h => ⟨?_, rfl⟩⟩ rfl rfl
      · obtain ⟨h1, h2⟩ := recv_eq_iff.mp h.1
        subst h1
        have : bwd k' (fwd k' d) = bwd k (fwd k' d) := by rw [bwd_fwd, h2]
        exact ⟨bwd_inj _ this, h2.symm⟩
      · obtain ⟨rfl, rfl⟩ := h
        rw [fwd_bwd]
    rw [Finset.sum_congr rfl fun k' _ => h k', Finset.sum_ite_eq' Finset.univ k, if_pos (Finset.mem_univ _)]
  · intro k' _
    unfold owedBar
    rw [tallyAt_ne_cell (recv_ne_bar _ _ _)]; rfl

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (bwd k c) fun _ => 1).trans (if_pos (Finset.mem_univ _))]
  rfl

theorem launch_recv (c : Dev nD) (k : Fin 7) :
    tallyOn (recvCell c (bwd k c)) (launchCredit (Pipeline.owing O₀) 0 (recvCell c (bwd k c))) = (tallyAt (recvCell c (bwd k c)) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (bwd k c) fun _ => N,
    if_pos (Finset.mem_univ _)]

/-- The semaphore of each row a device receives. -/
def rowSems (c : Dev nD) : Finset (SemLoc sig) := Finset.univ.map ⟨fun k : Fin 7 => .dma (recvQ (bwd k c)), fun _ _ h => bwd_inj c (recvQ_inj (SemLoc.dma.inj h))⟩

omit [FloatOps F] in
/-- The credit a device starts with: seven units at its barrier semaphore, a row's credit at the semaphore of each row it receives. -/
theorem creds (c : Dev nD) :
    (Pipeline.launchCred O₀ c : sProp 𝕄) ⊢ iprop(cred (tallyAt (barCell c) () 7) ∗ bigSep Finset.univ fun k : Fin 7 => cred (tallyAt (recvCell c (bwd k c)) () N)) := by
  unfold Pipeline.launchCred
  rw [bigSep_univ_at _ (SemLoc.reg barS), launch_bar]
  refine sep_mono_right ?_
  have hsub : rowSems c ⊆ Finset.univ.erase (SemLoc.reg barS) := by
    intro s hs
    obtain ⟨k, -, rfl⟩ := Finset.mem_map.mp hs
    exact Finset.mem_erase.mpr ⟨fun h => (nomatch h), Finset.mem_univ _⟩
  refine (bigSep_subset hsub).trans ?_
  unfold rowSems
  rw [bigSep_map]
  exact bigSep_mono fun k _ => Entails.of_eq (congrArg cred (launch_recv c k))

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hcells : (bigSep Finset.univ fun k : Fin 17 => (atPos ER (kcell (c, k)) 0 ∅ 0 : sProp 𝕄))
      ⊢ iprop(atPos ER (barCell c) 0 ∅ 0 ∗ (atPos ER (ownCell c 0) 0 ∅ 0 ∗ bigSep Finset.univ fun k : Fin 7 => atPos ER (sendCell c k) 0 ∅ 0)
        ∗ (atPos ER (recvCell c c) 0 ∅ 0 ∗ bigSep Finset.univ fun k : Fin 7 => atPos ER (recvCell c (bwd k c)) 0 ∅ 0)) := by
    rw [bigSep_cells]
    refine sep_mono_right (Entails.of_eq ?_)
    exact own_split c fun q => atPos ER ((c : Thread nD τ), .dma q) 0 ∅ 0
  have hrecv : iprop((bigSep Finset.univ fun k : Fin 7 => cred (tallyAt (recvCell c (bwd k c)) () N)) ∗ bigSep Finset.univ fun k : Fin 7 => atPos ER (recvCell c (bwd k c)) 0 ∅ 0)
      ⊢ bigSep Finset.univ (recvOne (F := F) c) := Entails.of_eq (bigSep_sep' _ _ _).symm
  iintro ⟨-, Hlev, Hcr, -, HG⟩
  ihave Hc := (creds (F := F) c) $$ Hcr
  icases Hc with ⟨H1, HN⟩
  imodintro
  unfold G' linear payToks
  icases HG with ⟨%K, HR, Hat, Htb, Htx⟩
  ihave ⟨Hatb, ⟨Hat0, Hats⟩, ⟨Hatc, Hatr⟩⟩ := hcells $$ Hat
  unfold start ghost barGhost xferGhost
  isplitl
  · isplitl [Hlev HR Hat0 Hats Hatc Hatr Htx HN]
    · iexists K
      isplitl [HR]; · iexact HR
      isplitl [Hlev]; · iexact Hlev
      isplitl [Hat0]; · iexact Hat0
      isplitl [Hatc]; · iexact Hatc
      isplitl [Hats]; · iexact Hats
      isplitl [Htx]; · iexact Htx
      iapply hrecv
      isplitl [HN]; · iexact HN
      iexact Hatr
    isplitl [H1]; · iexact H1
    isplitl [Hatb]; · iexact Hatb
    iexact Htb
  · iempintro

theorem phi_enter (c : Dev nD) :
    iprop(start m c ∗ Pipeline.prefHeld Pipeline.Prefetch.none c (fun _ => fullShare.right) (fun k => k.elim0) ∗ Pipeline.scopedRest cfg0.spec c)
      ⊢ (rdats m 0 c).Φ 0 := by
  show _ ⊢ ΦFirst m c
  rw [scopedRest0_eq]
  unfold ΦFirst
  iintro ⟨Hs, -, ⟨%f, Hr⟩, ⟨%g, Hc⟩⟩
  isplitl [Hs]; · iexact Hs
  isplitl [Hr]; · iexists f; unfold comm; iexact Hr
  iexists g; unfold carB; iexact Hc

theorem phi_exit (c : Dev nD) :
    (rdats m 0 c).Φ (Fin.last cfg0.N) ⊢ iprop(unscopedSems0 c ∗ Pipeline.ownSems0 osem c ∗ Pipeline.scopedRest cfg0.spec c) := by
  show ΦLast (F := F) c ⊢ _
  rw [scopedRest0_eq, ownSems0_eq, unscopedSems0_eq]
  unfold ΦLast
  iintro ⟨⟨%f, Hr⟩, ⟨%g, Hc⟩, HzB, Hz⟩
  isplitl [HzB]; · iexact HzB
  isplitl [Hz]; · iexact Hz
  isplitl [Hr]; · iexists f; unfold comm; iexact Hr
  iexists g; unfold carB; iexact Hc

theorem owed_cases (b : ℕ) (c : Dev nD) : owedAt b c = O₀ c ∨ owedAt b c = O₁ c ∨ owedAt b c = 0 := by
  unfold owedAt
  split
  · exact .inl rfl
  · split
    · exact .inr (.inl rfl)
    · exact .inr (.inr rfl)

theorem waits (c : Dev nD) : (levAts L lv : sProp 𝕄) ⊢ Pipeline.RDat.cellsWaits cfgs (rdats m) () 0 c :=
  Pipeline.RDat.cellsWaits_intro cfgs (rdats m) () 0 c fun w s t =>
    mayWait_stage c _ (by fin_cases w <;> fin_cases s <;> decide) _ (owed_cases t.val c)

end Cert.KernelIdealProof

end
-- ==== Proof.KernelIdeal.Run.lean ====
/-
The run

From any memory, on eight devices: every execution ends, the input is unchanged, every device's result array holds its result, and
every semaphore counter is zero again.
-/
module
public import proofs.«01_k».proof.Proof.KernelIdeal.Launch
public import Idealize.ShloMosaic.Lib.Pipeline.ArrRel
public import Idealize.ShloMosaic.Lib.Pipeline.CollectiveSegs
public import Idealize.ShloMosaic.Lib.Quiescent

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring
open Idealize.ShloMosaic.Pipeline (RDat)

variable {F : FTy → Type} [FloatOps F]

local notation "𝕄" => MT nD τ sig Unit (Elt F) ℕ UU ℕ

variable (m : (ℓ : Loc nD τ sig) → Buf (Elt F) ℓ) (ρ : Dev nD → PrngReg)

theorem last_lt : 31 < cfg0.N := by rw [show cfg0.N = 32 from N_0]; decide

/-- The last point writes back the whole result array. -/
theorem whole_out : (cfg0.win 1).WholeAt ⟨31, last_lt⟩ := by
  refine ⟨(flush0_1 _).mpr rfl, fun t ht => ?_, fun a => ?_⟩
  · have ht' := (flush0_1 t).mp ht
    have hlt : t.val < 32 := N_0 ▸ t.isLt
    exact Fin.ext (by show t.val = 31; omega)
  · match a with
    | ⟨0, _⟩ => exact ⟨rfl, rfl⟩
    | ⟨1, _⟩ => exact ⟨rfl, rfl⟩

/-- The input array is never written. -/
theorem arr_in (c : Dev nD) (G : FVec F S8192x1024 .bf16) (h : (rdats m 0 c).ArrAt 0 cfg0.N G) : G = m ((c : Thread nD τ).loc main_arg0) := by
  rw [RDat.ArrAt_in (rdats m 0 c) 0 rfl] at h
  exact h

/-- What the result array holds after the run. -/
theorem arr_out (c : Dev nD) (G : FVec F S8192x1024 .bf16) (h : (rdats m 0 c).ArrAt 1 cfg0.N G) : G = outFin m c := by
  obtain ⟨X, ⟨Y, -, hX⟩, hG⟩ := h.emb_eq_of_wholeAt whole_out
  have hX' : Done m c 31 X := hX
  unfold Done at hX'
  rw [if_pos rfl] at hX'
  funext j
  exact (hG j).trans (congrFun hX' j)

/-- What the run establishes: the input unchanged, the result in the result array, on every device. -/
def QC : PUnit × MemSt nD τ sig (Elt F) → Prop := fun r =>
  ∀ c : Dev nD, r.2.mem ((c : Thread nD τ).loc main_arg0) = m ((c : Thread nD τ).loc main_arg0) ∧ r.2.mem ((c : Thread nD τ).loc main_v1) = outFin m c

/-- The run of the eight devices. -/
theorem run_main : θ_run defs (onTc (τ := τ) (main (F := F))) ⟨m, fun _ => 0, ρ⟩ (fun r => QC m r ∧ r.2.sem = fun _ => 0) :=
  Pipeline.RDat.θ_run_region_owing_glob_pf (fun p => (cfgs p).toPCfg) (fun p => (cfgs p).toPCfg_adm) (rdats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_enter m) (hout := phi_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨arr_in m c _ ((h c).1 0), arr_out m c _ ((h c).1 1)⟩, sem_eq_zero hs fun c => (h c).2.2⟩)

end Cert.KernelIdealProof

end
-- ==== Proof.Value.Pay.lean ====
/-
The kernel's arithmetic read at an index

Each value the kernel computes from what it has read, at one entry, over the extended reals: the triangular product is a sum of the rows up to
and including the entry's, and the sum over the devices before the device's own is a sum of their rows.
-/
module
public import proofs.«01_k».proof.Proof.KernelIdeal.Contents
public import Idealize.ShloMosaic.Lib.WordCmp

@[expose] public section

set_option maxRecDepth 16384

noncomputable section

namespace Cert.KernelIdealProof

open Cert.KernelIdeal Cert.KernelIdeal.Gen
open Idealize.ShloMosaic

/-- The carry starts at zero. -/
theorem pay1_apply (j : Fin 1024) : k0_pay1 (F := Ideal) (ix2 0 j) = 0 := by
  pointwise [k0_pay1]

/-- A bit widened to a word and converted is 1 or 0. -/
theorem sitofp_bit (b : Bool) : FloatOps.sitofp (F := Ideal) FTy.f32 ((BitVec.ofBool b).setWidth 32) = if b then 1 else 0 := by
  cases b
  · show ((((BitVec.ofBool false).setWidth 32).toInt : ℝ) : EReal) = 0
    rw [show ((BitVec.ofBool false).setWidth 32).toInt = 0 by decide]; simp
  · show ((((BitVec.ofBool true).setWidth 32).toInt : ℝ) : EReal) = 1
    rw [show ((BitVec.ofBool true).setWidth 32).toInt = 1 by decide]; simp

/-- The triangular product: the sum of the block's rows up to and including the entry's. -/
theorem pay2_apply (v : FVec Ideal S256x1024 .bf16) (r : Fin 256) (j : Fin 1024) :
    k0_pay2 (F := Ideal) v (ix2 r j) = ∑ k : Fin 256, if k.val ≤ r.val then v (ix2 k j) else 0 := by
  pointwise [k0_pay2]
  refine Finset.sum_congr rfl fun k _ => ?_
  rw [WordCmp.cmpi_sge_ofNat (w := 32) (by have := r.isLt; omega) (by have := k.isLt; omega), sitofp_bit]
  by_cases h : k.val ≤ r.val
  · simp [h]
  · simp [h]

/-- A block's local cumulative sum: the triangular product plus the carry. -/
theorem pay3_apply (v : FVec Ideal S256x1024 .bf16) (w : FVec Ideal S1x1024 .f32) (r : Fin 256) (j : Fin 1024) :
    k0_pay3 (F := Ideal) v w (ix2 r j) = k0_pay2 (F := Ideal) v (ix2 r j) + w (ix2 0 j) := by
  pointwise [k0_pay3]

/-- The next carry: the carry plus the last row of the triangular product. -/
theorem pay4_apply (v : FVec Ideal S256x1024 .bf16) (w : FVec Ideal S1x1024 .f32) (j : Fin 1024) :
    k0_pay4 (F := Ideal) v w (ix2 0 j) = w (ix2 0 j) + k0_pay2 (F := Ideal) v (ix2 255 j) := by
  pointwise [k0_pay4]

/-- The sum of the first `p` devices' totals. -/
theorem pay6_apply (p : ℕ) (hp : p < 8) (v : FVec Ideal S8x1x1024 .f32) (j : Fin 1024) :
    k0_pay6 (F := Ideal) (BitVec.ofNat 32 p) v (ix2 0 j) = ∑ d : Fin 8, if d.val < p then v (ix3 d 0 j) else 0 := by
  pointwise [k0_pay6]
  refine Finset.sum_congr rfl fun d _ => ?_
  rw [WordCmp.cmpi_slt_ofNat (w := 32) (by have := d.isLt; omega) (by omega)]
  by_cases h : d.val < p
  · rw [if_pos h]; simp [h, Scalar.select]
  · rw [if_neg h]; simp [h, Scalar.select]

/-- The result: the local cumulative sum plus the sum over the earlier devices. -/
theorem pay9_apply (w : FVec Ideal S1x1024 .f32) (v : FVec Ideal S256x1024 .bf16) (r : Fin 256) (j : Fin 1024) :
    k0_pay9 (F := Ideal) w v (ix2 r j) = v (ix2 r j) + w (ix2 0 j) := by
  pointwise [k0_pay9]

end Cert.KernelIdealProof

end
-- ==== Proof.Value.Prefix.lean ====
/-
Prefix sums

Facts about sums of a sequence's first entries, in any additive commutative monoid, and the reference's cumulative sum read at an index:
a sum over windows that reach from the first row to the row in question.
-/
module
public import Idealize.ShloMosaic.Lib.Routing.OpsOne
public import Idealize.ShloMosaic.PureOps.Ideal
public import Mathlib.Algebra.BigOperators.Intervals

@[expose] public section

namespace Cert.CumsumProof

open Idealize.ShloMosaic Idealize.ShloMosaic.ValueIdx Idealize.ShloMosaic.Routing

/-- A left fold of additions is the initial value plus the sum of the list. -/
theorem foldl_add {M ι : Type*} [AddCommMonoid M] (g : ι → M) (l : List ι) (v : M) : l.foldl (fun r n => r + g n) v = v + (l.map g).sum := by
  induction l generalizing v with
  | nil => simp
  | cons a l ih => rw [List.foldl_cons, ih, List.map_cons, List.sum_cons, add_assoc]

/-- Rows read in a window of `A + 1` rows that ends at row `j`: those that exist are rows `0 … j`. -/
theorem sum_window {M : Type*} [AddCommMonoid M] (f : ℕ → M) (A j : ℕ) (hj : j ≤ A) :
    (∑ n ∈ Finset.range (A + 1), if A ≤ j + n then f (j + n - A) else 0) = ∑ i ∈ Finset.range (j + 1), f i := by
  have e : A + 1 = (A - j) + (j + 1) := by omega
  rw [e, Finset.sum_range_add, Finset.sum_eq_zero fun n hn => if_neg (by have := Finset.mem_range.1 hn; omega), zero_add]
  refine Finset.sum_congr rfl fun i _ => ?_
  rw [if_pos (by omega)]
  congr 1
  omega

/-- A sum over `Fin n` of the entries up to and including `r` is the sum of the first `r + 1` entries. -/
theorem sum_le {M : Type*} [AddCommMonoid M] {n : ℕ} (f : ℕ → M) (r : ℕ) (hr : r < n) :
    (∑ k : Fin n, if k.val ≤ r then f k.val else 0) = ∑ k ∈ Finset.range (r + 1), f k := by
  rw [Fin.sum_univ_eq_sum_range (fun k => if k ≤ r then f k else 0) n, ← Finset.sum_filter]
  refine Finset.sum_congr (Finset.ext fun k => ?_) fun _ _ => rfl
  rw [Finset.mem_range, Finset.mem_filter, Finset.mem_range]
  omega

/-- A sum over `Fin n` of the entries before `r` is the sum of the first `r` entries. -/
theorem sum_lt {M : Type*} [AddCommMonoid M] {n : ℕ} (f : ℕ → M) (r : ℕ) (hr : r ≤ n) :
    (∑ k : Fin n, if k.val < r then f k.val else 0) = ∑ k ∈ Finset.range r, f k := by
  rw [Fin.sum_univ_eq_sum_range (fun k => if k < r then f k else 0) n, ← Finset.sum_filter]
  refine Finset.sum_congr (Finset.ext fun k => ?_) fun _ _ => rfl
  rw [Finset.mem_range, Finset.mem_filter, Finset.mem_range]
  omega

/-- Sums of consecutive stretches of `w` entries add up to the sum of the first `w p` entries. -/
theorem sum_stretches {M : Type*} [AddCommMonoid M] (g : ℕ → M) (w p : ℕ) :
    (∑ d ∈ Finset.range p, ∑ n ∈ Finset.range w, g (w * d + n)) = ∑ n ∈ Finset.range (w * p), g n := by
  induction p with
  | zero => simp
  | succ p ih => rw [Finset.sum_range_succ, ih, Nat.mul_succ, Finset.sum_range_add]

/-- The cumulative sum of a matrix down its rows, as a sum over windows of the whole height padded low by one row less: entry `(j, c)` is the
sum of column `c`'s entries in rows `0 … j`. -/
theorem cumsum_rows {R A C : ℕ} (hR : A + 1 = R) (x : (shape2 R C).Idx → EReal) (f : ℕ → EReal) (j : Fin R) (c : Fin C)
    (hx : ∀ i : Fin R, x (ix2 i c) = f i.val) (init : shape0.Idx → EReal) (hinit : ∀ i, init i = 0)
    (h : (shape2 R C).ReduceWindows (![R, 1] : Fin 2 → ℕ) ![1, 1] ![A, 0] ![0, 0] (shape2 R C)) (hu : 0 < shape0.numel) :
    Host.reduceWindow (fun a b : EReal => a + b) ![R, 1] ![1, 1] ![A, 0] ![0, 0] x init h hu (ix2 j c) = ∑ i ∈ Finset.range (j.val + 1), f i := by
  subst hR
  have hj := j.isLt
  have hc := c.isLt
  unfold Host.reduceWindow
  dsimp only
  rw [foldl_add, hinit, zero_add, ← Fin.sum_univ_def]
  refine (Finset.sum_congr rfl fun n _ => (?_ : _ = (fun n : ℕ => if A ≤ j.val + n then f (j.val + n - A) else 0) n.val)).trans ?_
  · have hw0 : ((shape2 (A + 1) 1).rowMajor.symm n 0).val = n.val := by rw [symm_col]; rfl
    have hw1 : ((shape2 (A + 1) 1).rowMajor.symm n 1).val = 0 := by rw [symm_col]; rfl
    have hn : n.val < A + 1 := (n.cast (numel_col _)).isLt
    dsimp only
    split
    · next hin =>
      have h0 := hin 0
      change A ≤ j.val * 1 + ((shape2 (A + 1) 1).rowMajor.symm n 0).val
        ∧ j.val * 1 + ((shape2 (A + 1) 1).rowMajor.symm n 0).val - A < A + 1 at h0
      rw [hw0] at h0
      rw [if_pos (by omega)]
      refine (congrArg x (funext fun a => Fin.ext ?_)).trans (hx ⟨j.val + n.val - A, by omega⟩)
      match a with
      | ⟨0, _⟩ =>
        show j.val * 1 + ((shape2 (A + 1) 1).rowMajor.symm n 0).val - A = j.val + n.val - A
        rw [hw0, Nat.mul_one]
      | ⟨1, _⟩ =>
        show c.val * 1 + ((shape2 (A + 1) 1).rowMajor.symm n 1).val - 0 = c.val
        rw [hw1]
        omega
    · next hin =>
      rw [if_neg fun hle => hin fun a => by
        match a with
        | ⟨0, _⟩ =>
          show A ≤ j.val * 1 + ((shape2 (A + 1) 1).rowMajor.symm n 0).val
            ∧ j.val * 1 + ((shape2 (A + 1) 1).rowMajor.symm n 0).val - A < A + 1
          rw [hw0]
          omega
        | ⟨1, _⟩ =>
          show 0 ≤ c.val * 1 + ((shape2 (A + 1) 1).rowMajor.symm n 1).val ∧ c.val * 1 + ((shape2 (A + 1) 1).rowMajor.symm n 1).val - 0 < C
          rw [hw1]
          omega]
  refine (Fin.sum_univ_eq_sum_range (fun n : ℕ => if A ≤ j.val + n then f (j.val + n - A) else 0) (shape2 (A + 1) 1).numel).trans ?_
  rw [numel_col]
  exact sum_window f A j.val (by omega)

/-- The same for the host's float window sum over the extended reals, where the initial value is zero. -/
theorem cumsum_rows_host {R A C : ℕ} {φ : FTy} (hR : A + 1 = R) (x : FVec Ideal (shape2 R C) φ) (f : ℕ → EReal) (j : Fin R) (c : Fin C)
    (hx : ∀ i : Fin R, x (ix2 i c) = f i.val) (init : FVec Ideal shape0 φ) (hinit : ∀ i, init i = 0)
    (h : (shape2 R C).ReduceWindows (![R, 1] : Fin 2 → ℕ) ![1, 1] ![A, 0] ![0, 0] (shape2 R C)) (hu : 0 < shape0.numel) :
    Host.reduceWindowAdd ![R, 1] ![1, 1] ![A, 0] ![0, 0] x init h hu (ix2 j c) = ∑ i ∈ Finset.range (j.val + 1), f i :=
  cumsum_rows hR x f j c hx (fun _ => init (Shape.Idx.first hu)) (fun _ => hinit _) h hu

end Cert.CumsumProof

end
-- ==== Proof.Value.Kernel.lean ====
/-
What the kernel computes

Over the extended reals, entry `(n, j)` of device `c`'s result is the sum of column `j` over every row of the devices before `c` and over the
device's own rows `0 … n`.
-/
module
public import proofs.«01_k».proof.Proof.Value.Pay
public import proofs.«01_k».proof.Proof.Value.Prefix

@[expose] public section

set_option maxRecDepth 16384

noncomputable section

namespace Cert.KernelIdealProof

open Cert.KernelIdeal Cert.KernelIdeal.Gen Cert.CumsumProof
open Idealize.ShloMosaic
open Idealize.SL.Sem

variable (m : (ℓ : Loc nD τ sig) → Buf (Elt Ideal) ℓ)

set_option backward.proofsInPublic true in
/-- Column `j` of device `c`'s rows, by row number. -/
def col (c : Dev nD) (j : Fin 1024) (n : ℕ) : EReal := xarr m c (ix2 ⟨n % 8192, Nat.mod_lt _ (by decide)⟩ j)

/-- The triangular product of block `b`: the sum of the block's first `r + 1` rows. -/
theorem tri_block (c : Dev nD) (b : ℕ) (r : Fin 256) (j : Fin 1024) :
    k0_pay2 (F := Ideal) (xblk m c b) (ix2 r j) = ∑ k ∈ Finset.range (r.val + 1), col m c j (256 * b + k) := by
  rw [pay2_apply]
  exact sum_le (fun k => col m c j (256 * b + k)) r.val r.isLt

/-- The carry before block `b`: the sum of the first `256 b` rows. -/
theorem carry_apply (c : Dev nD) (j : Fin 1024) (b : ℕ) : carry m c b (ix2 0 j) = ∑ n ∈ Finset.range (256 * b), col m c j n := by
  induction b with
  | zero => rw [carry, pay1_apply]; simp
  | succ b ih => rw [carry, pay4_apply, ih, tri_block, Nat.mul_succ, Finset.sum_range_add (col m c j) (256 * b) 256]; rfl

/-- A device's total: the sum of all its rows. -/
theorem total_apply (c : Dev nD) (j : Fin 1024) : total m c (ix2 0 j) = ∑ n ∈ Finset.range 8192, col m c j n := carry_apply m c j 32

/-- Block `b` of the local cumulative sum: the sum of the rows up to and including row `256 b + r`. -/
theorem blk_apply (c : Dev nD) (b : ℕ) (r : Fin 256) (j : Fin 1024) :
    blk m c b (ix2 r j) = ∑ n ∈ Finset.range (256 * b + (r.val + 1)), col m c j n := by
  unfold blk
  rw [pay3_apply, tri_block, carry_apply, Finset.sum_range_add (col m c j) (256 * b) (r.val + 1), add_comm]

/-- The device's number, as the kernel computes it. -/
theorem posWord_eq (c : Dev nD) : posWord c = BitVec.ofNat 32 c.val := by
  revert c; decide

/-- The sum added to every row: the totals of the devices before `c`, in any function `t` of the device number that gives them. -/
theorem pref_apply (c : Dev nD) (j : Fin 1024) (t : ℕ → EReal) (ht : ∀ d : Dev nD, total m d (ix2 0 j) = t d.val) :
    pref m c (ix2 0 j) = ∑ d ∈ Finset.range c.val, t d := by
  unfold pref
  rw [posWord_eq, pay6_apply c.val c.isLt, ← sum_lt (n := 8) t c.val (le_of_lt c.isLt)]
  refine Finset.sum_congr rfl fun d _ => ?_
  rw [← ht d]
  rfl

/-- **The result**, where `g` gives the whole column: device `c`'s rows are its stretch of 8192 entries. -/
theorem outFin_apply (g : ℕ → EReal) (j : Fin 1024) (hg : ∀ (d : Dev nD) (n : ℕ), n < 8192 → col m d j n = g (8192 * d.val + n))
    (c : Dev nD) (n : Fin 8192) : outFin m c (ix2 n j) = ∑ i ∈ Finset.range (8192 * c.val + n.val + 1), g i := by
  have hn := n.isLt
  have hcol : ∀ (d : Dev nD) (N : ℕ), N ≤ 8192 → (∑ i ∈ Finset.range N, col m d j i) = ∑ i ∈ Finset.range N, g (8192 * d.val + i) :=
    fun d N hN => Finset.sum_congr rfl fun i hi => hg d i (by have := Finset.mem_range.1 hi; omega)
  show k0_pay9 (F := Ideal) (pref m c) (blk m c (n.val / 256)) (ix2 ⟨n.val % 256, _⟩ j) = _
  rw [pay9_apply, blk_apply, hcol c _ (by show 256 * (n.val / 256) + (n.val % 256 + 1) ≤ 8192; omega),
    pref_apply m c j (fun d => ∑ i ∈ Finset.range 8192, g (8192 * d + i)) (fun d => (total_apply m d j).trans (hcol d 8192 le_rfl)),
    sum_stretches, add_comm, ← Finset.sum_range_add]
  congr 2
  show 8192 * c.val + (256 * (n.val / 256) + (n.val % 256 + 1)) = _
  omega

end Cert.KernelIdealProof

end
-- ==== Proof.Value.Reference.lean ====
/-
What the reference computes

The reference's run read back: its result is the cumulative sum of its argument down the rows, its argument is unchanged, every semaphore
counter is zero. Over the extended reals, entry `(n, j)` of the result is the sum of column `j` over rows `0 … n`.
-/
module
public import proofs.«01_k».proof.Proof.Gen.ReferenceIdeal.Run
public import proofs.«01_k».proof.Proof.Value.Prefix
public import Idealize.ShloMosaic.Lib.Pointwise
public import Idealize.ShloMosaic.Lib.Quiescent

@[expose] public section

set_option maxRecDepth 16384

noncomputable section

namespace Cert.ReferenceIdealProof

open Cert.ReferenceIdeal Cert.ReferenceIdeal.Gen Cert.CumsumProof
open Idealize.ShloMosaic
open Idealize.SL.Sem

variable {F : FTy → Type} [FloatOps F]

/-- The reference's result from its argument. -/
def refOut (x : FVec F S65536x1024 .bf16) : FVec F S65536x1024 .bf16 :=
  Host.reduceWindowAdd ![65536, 1] ![1, 1] ![65535, 0] ![0, 0] x (broadcastInDim S_ ![] bcast_S_S_ (constant S_ .bf16 0x0000#16))
    reduceWindows_S65536x1024_S65536x1024_w65536s1p65535_0_w1s1p0_0 h_S_

set_option backward.proofsInPublic true in
/-- Column `j` of the whole array, by row number. -/
def gcol (x : FVec Ideal S65536x1024 .bf16) (j : Fin 1024) (n : ℕ) : EReal := x (ix2 ⟨n % 65536, Nat.mod_lt _ (by decide)⟩ j)

/-- **The reference's result**: the sum of the rows up to and including the entry's. -/
theorem refOut_apply (x : FVec Ideal S65536x1024 .bf16) (n : Fin 65536) (j : Fin 1024) :
    refOut x (ix2 n j) = ∑ i ∈ Finset.range (n.val + 1), gcol x j i := by
  have hinit : ∀ i, (broadcastInDim S_ ![] bcast_S_S_ (constant (F := Ideal) S_ .bf16 0x0000#16)) i = 0 := fun i => Ideal.ofBits_zero_bf16
  have hx : ∀ i : Fin 65536, x (ix2 i j) = gcol x j i.val := fun i => by
    unfold gcol
    congr 2
    exact Fin.ext (Nat.mod_eq_of_lt i.isLt).symm
  have hA : (65535 : ℕ) + 1 = 65536 := by norm_num
  have hw : (Routing.shape2 65536 1024).ReduceWindows (![65536, 1] : Fin 2 → ℕ) ![1, 1] ![65535, 0] ![0, 0] (Routing.shape2 65536 1024) := reduceWindows_S65536x1024_S65536x1024_w65536s1p65535_0_w1s1p0_0
  have key := cumsum_rows_host hA x (gcol x j) n j hx _ hinit hw h_S_
  unfold refOut
  have e : (ValueIdx.ix2 n j : S65536x1024.Idx) = ix2 n j := by
    funext a
    match a with
    | ⟨0, _⟩ => rfl
    | ⟨1, _⟩ => rfl
  rw [e] at key
  exact key

/-- The reference's run: the result is `refOut` of the argument, the argument is unchanged, every semaphore counter is zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v0) = refOut (m ((c.tc : Thread nD τ).loc main_arg0))
        ∧ r.2.mem ((c.tc : Thread nD τ).loc main_arg0) = m ((c.tc : Thread nD τ).loc main_arg0))
      ∧ r.2.sem = fun _ => 0 :=
  (θ_run defs _ _).mono (fun r h => ⟨h, sem_eq_zero_of_no_sems (by decide) r.2⟩) (Value.run m ρ)

end Cert.ReferenceIdealProof

end
-- ==== Proof.Value.Bridge.lean ====
/-
The kernel's blocks are the reference's

Where device `c`'s rows are block `c` of a whole array, its result is block `c` of the whole array's cumulative sum.
-/
module
public import proofs.«01_k».proof.Proof.Value.Kernel
public import proofs.«01_k».proof.Proof.Value.Reference
public import Idealize.ShloMosaic.Lib.Layout

@[expose] public section

set_option maxRecDepth 16384

noncomputable section

namespace Cert.CumsumProof

open Idealize.ShloMosaic
open Idealize.SL.Sem
open Cert.KernelIdealProof Cert.ReferenceIdealProof

/-- The per-device shape, eight times along the rows, is the whole array's. -/
theorem tiles : Layout.Tiles ⟨2, ![8192, 1024]⟩ ⟨2, ![65536, 1024]⟩ 0 8 := by decide

/-- Row `n`, column `j` of block `c` is row `8192 c + n`, column `j` of the whole array. -/
theorem tiles_idx (c : Fin 8) (n : Fin 8192) (j : Fin 1024) (h : 8192 * c.val + n.val < 65536) : tiles.idx c (ix2 n j) = ix2 ⟨8192 * c.val + n.val, h⟩ j := by
  funext a
  refine Fin.ext ?_
  match a with
  | ⟨0, _⟩ => show c.val * 8192 + n.val = 8192 * c.val + n.val; omega
  | ⟨1, _⟩ => rfl

/-- **Device `c`'s result is block `c` of the reference's result.** -/
theorem outFin_eq_block (m : (ℓ : Loc Cert.KernelIdeal.nD Cert.KernelIdeal.τ Cert.KernelIdeal.sig) → Buf (Elt Ideal) ℓ)
    (x : FVec Ideal Cert.ReferenceIdeal.S65536x1024 .bf16)
    (hm : ∀ c : Dev Cert.KernelIdeal.nD, xarr m c = Layout.block ⟨2, ![8192, 1024]⟩ ⟨2, ![65536, 1024]⟩ 0 8 c x tiles)
    (c : Dev Cert.KernelIdeal.nD) : outFin m c = Layout.block ⟨2, ![8192, 1024]⟩ ⟨2, ![65536, 1024]⟩ 0 8 c (refOut x) tiles := by
  suffices H : ∀ (n : Fin 8192) (j : Fin 1024), outFin m c (ix2 n j) = Layout.block ⟨2, ![8192, 1024]⟩ ⟨2, ![65536, 1024]⟩ 0 8 c (refOut x) tiles (ix2 n j) by
    funext i
    rw [eq_ix2 (n0 := 8192) (n1 := 1024) i]
    exact H _ _
  intro n j
  have hc : c.val < 8 := c.isLt
  have hn : n.val < 8192 := n.isLt
  rw [Layout.block_apply, tiles_idx c n j (by clear hm; omega), refOut_apply]
  refine outFin_apply m (gcol x j) j (fun d k hk => ?_) c n
  have hd : d.val < 8 := d.isLt
  unfold col gcol
  rw [hm d, Layout.block_apply, tiles_idx d _ j (by show 8192 * d.val + k % 8192 < 65536; omega)]
  congr 2
  refine Fin.ext ?_
  show 8192 * d.val + k % 8192 = (8192 * d.val + k) % 65536
  omega

end Cert.CumsumProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Bridge
public import Idealize.ShloMosaic.Adequacy
public import Idealize.ShloMosaic.Init

@[expose] public section

noncomputable section

namespace Cert.Proof

open Idealize.ShloMosaic Idealize.SL.Sem Cert.Kernel

/-- The kernel's run on words: its input is unchanged and every semaphore counter ends at zero. -/
theorem quiescent_kernel : Cert.quiescent_Kernel (hKernel := Cert.Kernel.Gen.facts) := fun m g _ =>
  (θ_run (Cert.Kernel.defs (F := Bits)) _ _).mono (fun _ h => ⟨fun c => (h.1 c).1, h.2⟩) (Cert.KernelProof.run_main m g)

/-- The same over the extended reals. -/
theorem quiescent_kernelIdeal : Cert.quiescent_KernelIdeal (hKernelIdeal := Cert.KernelIdeal.Gen.facts) := fun m g _ =>
  (θ_run (Cert.KernelIdeal.defs (F := Ideal)) _ _).mono (fun _ h => ⟨fun c => (h.1 c).1, h.2⟩) (Cert.KernelIdealProof.run_main m g)

/-- The same for the reference. -/
theorem quiescent_referenceIdeal : Cert.quiescent_ReferenceIdeal (hReferenceIdeal := Cert.ReferenceIdeal.Gen.facts) := fun m g _ =>
  (θ_run (Cert.ReferenceIdeal.defs (F := Ideal)) _ _).mono (fun _ h => ⟨fun c => (h.1 c).2, h.2⟩) (Cert.ReferenceIdealProof.run m g)

/-- Over the extended reals, each device's result is its block of the reference's result. -/
theorem algebraic : Cert.algebraic_KernelIdeal_ReferenceIdeal (hKernelIdeal := Cert.KernelIdeal.Gen.facts) (hReferenceIdeal := Cert.ReferenceIdeal.Gen.facts) := by
  intro m g m' g' _ hm
  refine ⟨Cert.ReferenceIdealProof.refOut (F := Ideal) (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h.1 c).2.trans (Cert.CumsumProof.outFin_eq_block m _ hm c), (h.1 c).1⟩) (Cert.KernelIdealProof.run_main m g)
  · exact (θ_run (Cert.ReferenceIdeal.defs (F := Ideal)) _ _).mono (fun _ h => h.1 0) (Cert.ReferenceIdealProof.run m' g')

theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
